-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_maximum [hPre_rows_have_a_maximum : Cert.Pre_rows_have_a_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_maximum [hPre_rows_have_a_maximum : Cert.Pre_rows_have_a_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_maximum [hKernelIdeal : Cert.KernelIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_maximum [hReferenceIdeal : Cert.ReferenceIdeal.Facts] [hPre_rows_have_a_maximum : Cert.Pre_rows_have_a_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_rows_have_a_maximum [hKernelIdeal : Cert.KernelIdeal.Facts] [hReferenceIdeal : Cert.ReferenceIdeal.Facts] [hPre_rows_have_a_maximum : Cert.Pre_rows_have_a_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_maximum : Cert.Pre_rows_have_a_maximum.Facts),
    quiescent_Kernel (hKernel := hKernel)
    ∧ quiescent_KernelIdeal (hKernelIdeal := hKernelIdeal)
    ∧ quiescent_KernelIdeal_pre_rows_have_a_maximum (hKernelIdeal := hKernelIdeal) (hPre_rows_have_a_maximum := hPre_rows_have_a_maximum)
    ∧ quiescent_ReferenceIdeal (hReferenceIdeal := hReferenceIdeal)
    ∧ quiescent_ReferenceIdeal_pre_rows_have_a_maximum (hReferenceIdeal := hReferenceIdeal) (hPre_rows_have_a_maximum := hPre_rows_have_a_maximum)
    ∧ preserves_Kernel_KernelIdeal
    ∧ algebraic_KernelIdeal_ReferenceIdeal_pre_rows_have_a_maximum (hKernelIdeal := hKernelIdeal) (hReferenceIdeal := hReferenceIdeal) (hPre_rows_have_a_maximum := hPre_rows_have_a_maximum)
-- ==== Pre_rows_have_a_maximum.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_v1 : FVec F S128 .f32 := Host.absf main_v0
  let main_cst_0 : FVec F S_ .f32 := constant S_ .f32 0x7F800000#32
  let main_v2 : FVec F S128 .f32 := broadcastInDim S128 ![] bcast_S_S128 main_cst_0
  let main_v3 : IVec S128 1 := cmpf .olt main_v1 main_v2
  let main_c : IVec S_ 1 := constantI S_ 1 1#1
  let main_v4 : IVec S_ 1 := (fun x v => Host.reduce IntOp.andi x v reducesTo_S128_S_d0 h_S_) main_v3 main_c
  main_v4
-- ==== Kernel.lean ====
abbrev S128x100000 : Shape := ⟨2, ![128, 100000]⟩
abbrev S100000x128 : Shape := ⟨2, ![100000, 128]⟩
abbrev S4000x128 : Shape := ⟨2, ![4000, 128]⟩
abbrev S2000x128 : Shape := ⟨2, ![2000, 128]⟩
abbrev S8x128 : Shape := ⟨2, ![8, 128]⟩
abbrev S80x128 : Shape := ⟨2, ![80, 128]⟩
abbrev S10x8x128 : Shape := ⟨3, ![10, 8, 128]⟩
abbrev S128 : Shape := ⟨1, ![128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S100000x128, .f32⟩
  | .hbm, ⟨2, _⟩ => ⟨S100000x128, .f32⟩
  | .hbm, ⟨3, _⟩ => ⟨S128x100000, .f32⟩
  | .local _ .vmem, ⟨0, _⟩ => ⟨S4000x128, .f32⟩
  | .local _ .vmem, ⟨1, _⟩ => ⟨S4000x128, .f32⟩
  | .local _ .vmem, ⟨2, _⟩ => ⟨S2000x128, .f32⟩
  | .local _ .vmem, ⟨3, _⟩ => ⟨S2000x128, .f32⟩
  | .local _ .vmem, ⟨4, _⟩ => ⟨S8x128, .f32⟩
  | .local _ .vmem, ⟨5, _⟩ => ⟨S100000x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_101 : BitVec 32 := 0#32
  let c49_i32 : BitVec 32 := 49#32
  let v379 : BitVec 32 := Scalar.addi c0_i32_101 c49_i32
  let c1_i32_102 : BitVec 32 := 1#32
  ⟨c0_i32_101, v379, c1_i32_102⟩
def k0_mult1 (k0_t1 : Fin k0_t1_loop.trips) : BitVec 32 :=
  let c0_i32_101 : BitVec 32 := 0#32
  let c1_i32_102 : BitVec 32 := 1#32
  let arg5 : BitVec 32 := Scf.iv c0_i32_101 c1_i32_102 k0_t1
  let c80_i32_174 : BitVec 32 := 80#32
  let v596 : BitVec 32 := Scalar.muli arg5 c80_i32_174
  v596
def k0_off1 (k0_t1 : Fin k0_t1_loop.trips) : Fin 2 → Nat :=
  let c0_i32_101 : BitVec 32 := 0#32
  let c1_i32_102 : BitVec 32 := 1#32
  let arg5 : BitVec 32 := Scf.iv c0_i32_101 c1_i32_102 k0_t1
  let c80_i32_174 : BitVec 32 := 80#32
  let v596 : BitVec 32 := Scalar.muli arg5 c80_i32_174
  let v597 : BitVec 32 := v596
  let v598 : Index := Scalar.indexCast v597
  let c0_175 : Index := 0#32
  ![v598.toNat, 0]
def k0_off2 (i : grid0.Coords) (k0_t1 : Fin k0_t1_loop.trips) : Fin 2 → Nat :=
  let arg0 : BitVec 32 := BitVec.ofNat 32 (i 0).val
  let c4000_i32_4 : BitVec 32 := 4000#32
  let v17 : BitVec 32 := Scalar.muli arg0 c4000_i32_4
  let c0_i32_101 : BitVec 32 := 0#32
  let c1_i32_102 : BitVec 32 := 1#32
  let arg5 : BitVec 32 := Scf.iv c0_i32_101 c1_i32_102 k0_t1
  let c80_i32_174 : BitVec 32 := 80#32
  let v596 : BitVec 32 := Scalar.muli arg5 c80_i32_174
  let v597 : BitVec 32 := v596
  let v612 : BitVec 32 := Scalar.addi v17 v597
  let v613 : Index := Scalar.indexCast v612
  let c0_180 : Index := 0#32
  ![v613.toNat, 0]
def k0_mult2 : BitVec 32 :=
  let c3920_i32 : BitVec 32 := 3920#32
  c3920_i32
def k0_off3 (i : grid0.Coords) : Fin 2 → Nat :=
  let arg0 : BitVec 32 := BitVec.ofNat 32 (i 0).val
  let c4000_i32_4 : BitVec 32 := 4000#32
  let v17 : BitVec 32 := Scalar.muli arg0 c4000_i32_4
  let c3920_i32 : BitVec 32 := 3920#32
  let v381 : BitVec 32 := c3920_i32
  let v396 : BitVec 32 := Scalar.addi v17 v381
  let v397 : Index := Scalar.indexCast v396
  let c0_108 : Index := 0#32
  ![v397.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def k0_off4 (i : grid0.Coords) : Fin 2 → Nat :=
  let arg0 : BitVec 32 := BitVec.ofNat 32 (i 0).val
  let c25_i32_4 : BitVec 32 := 25#32
  let v9 : BitVec 32 := Scalar.subi arg0 c25_i32_4
  let c2000_i32 : BitVec 32 := 2000#32
  let v15 : BitVec 32 := Scalar.muli v9 c2000_i32
  let v16 : Index := Scalar.indexCast v15
  let c0_7 : Index := 0#32
  ![v16.toNat, 0]
def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩
abbrev S128x1 : Shape := ⟨2, ![128, 1]⟩

abbrev nBuf : Space → Nat
  | .hbm => 293
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S_, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S_, .f32⟩
  | 21 => ⟨S128x100000, .f32⟩
  | 22 => ⟨S128x100000, .f32⟩
  | 23 => ⟨S_, .f32⟩
  | 24 => ⟨S128, .f32⟩
  | 25 => ⟨S_, .f32⟩
  | 26 => ⟨S128, .f32⟩
  | 27 => ⟨S128, .f32⟩
  | 28 => ⟨S128x1, .f32⟩
  | 29 => ⟨S128x100000, .f32⟩
  | 30 => ⟨S128x100000, .f32⟩
  | 31 => ⟨S128x100000, .f32⟩
  | 32 => ⟨S_, .f32⟩
  | 33 => ⟨S128, .f32⟩
  | 34 => ⟨S128x1, .f32⟩
  | 35 => ⟨S128x100000, .f32⟩
  | 36 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_cst_8 : Ref sig .tc := ⟨.hbm, 265, rfl⟩
abbrev main_v33 : Ref sig .tc := ⟨.hbm, 266, rfl⟩
abbrev main_v34 : Ref sig .tc := ⟨.hbm, 267, rfl⟩
abbrev main_cst_9 : Ref sig .tc := ⟨.hbm, 268, rfl⟩
abbrev main_v35 : Ref sig .tc := ⟨.hbm, 269, rfl⟩
abbrev main_v36 : Ref sig .tc := ⟨.hbm, 270, rfl⟩
abbrev main_v37 : Ref sig .tc := ⟨.hbm, 271, rfl⟩
abbrev main_v38 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_cst_10 : Ref sig .tc := ⟨.hbm, 276, rfl⟩
abbrev main_v42 : Ref sig .tc := ⟨.hbm, 277, rfl⟩
abbrev main_v43 : Ref sig .tc := ⟨.hbm, 278, rfl⟩
abbrev main_cst_11 : Ref sig .tc := ⟨.hbm, 279, rfl⟩
abbrev main_v44 : Ref sig .tc := ⟨.hbm, 280, rfl⟩
abbrev main_cst_12 : Ref sig .tc := ⟨.hbm, 281, rfl⟩
abbrev main_v45 : Ref sig .tc := ⟨.hbm, 282, rfl⟩
abbrev main_v46 : Ref sig .tc := ⟨.hbm, 283, rfl⟩
abbrev main_v47 : Ref sig .tc := ⟨.hbm, 284, rfl⟩
abbrev main_v48 : Ref sig .tc := ⟨.hbm, 285, rfl⟩
abbrev main_v49 : Ref sig .tc := ⟨.hbm, 286, rfl⟩
abbrev main_v50 : Ref sig .tc := ⟨.hbm, 287, rfl⟩
abbrev main_cst_13 : Ref sig .tc := ⟨.hbm, 288, rfl⟩
abbrev main_v51 : Ref sig .tc := ⟨.hbm, 289, rfl⟩
abbrev main_v52 : Ref sig .tc := ⟨.hbm, 290, rfl⟩
abbrev main_v53 : Ref sig .tc := ⟨.hbm, 291, rfl⟩
abbrev main_v54 : Ref sig .tc := ⟨.hbm, 292, rfl⟩

abbrev nD : Nat := 1
abbrev τ : Topo := Topo.v7x

variable {F : FTy → Type} [FloatOps F]
-- ==== Proof.KernelFrame.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.Quiescent
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branches of the body -/

/-- The first branch is taken where the grid coordinate is zero. -/
abbrev atStart (i : grid0.Coords) : Prop := (Scalar.cmpi .ne (Scalar.extui (Scalar.cmpi .eq (BitVec.ofNat 32 (i 0).val) 0#32)) 0#32) = 1#1

/-- It is taken at the first point only. -/
theorem atStart_iff : ∀ t : Fin cfg0.N, atStart (grid0.coords t) ↔ t.val = 0 :=
  (fun t => by
    have ht : t.val < 75 := Nat.lt_of_lt_of_eq t.isLt N_0
    have e0 : (grid0.coords t 0).val = t.val / 1 % 75 := Pipeline.Grid.coords_val t 0 (by decide) rfl
    have e1 : t.val / 1 % 75 = t.val := by omega
    simp only [atStart, e0, e1]
    word_cmp
   : ∀ t : Fin grid0.N, atStart (grid0.coords t) ↔ t.val = 0)

/-- The second branch, the one that computes exponentials, is taken at the first 25 points. -/
theorem filling_iff : ∀ t : Fin cfg0.N, k0_cond2 (grid0.coords t) = 1#1 ↔ t.val < 25 :=
  (by decide +kernel : ∀ t : Fin grid0.N, k0_cond2 (grid0.coords t) = 1#1 ↔ t.val < 25)

/-- The third branch, the one that scales, is taken at the last 50 points. -/
theorem scaling_iff : ∀ t : Fin cfg0.N, k0_cond3 (grid0.coords t) = 1#1 ↔ 25 ≤ t.val :=
  (by decide +kernel : ∀ t : Fin grid0.N, k0_cond3 (grid0.coords t) = 1#1 ↔ 25 ≤ t.val)

/-! ## The buffers the body is run on -/

/-- The staging buffer of the input window at a point, and that it is a whole buffer. -/
abbrev inMem (t : Fin cfg0.N) : Memref sig .tc .vmem S4000x128 .f32 := win0_0.stage (cfg0.slots t 0)
abbrev inMem_whole (t : Fin cfg0.N) : (inMem t).IsWhole := hstage0_0 ((cfg0.slots t 0).cast nbuf0_0)
/-- The staging buffer of the output window at a point, and that it is a whole buffer. -/
abbrev outMem (t : Fin cfg0.N) : Memref sig .tc .vmem S2000x128 .f32 := win0_1.stage (cfg0.slots t 1)
abbrev outMem_whole (t : Fin cfg0.N) : (outMem t).IsWhole := hstage0_1 ((cfg0.slots t 1).cast nbuf0_1)
/-- The two scratch buffers: the running sums, and the table of exponentials. -/
abbrev sumMem : Memref sig .tc .vmem S8x128 .f32 := Memref.whole cc0_scratch0
abbrev expMem : Memref sig .tc .vmem S100000x128 .f32 := Memref.whole cc0_scratch1

/-- The invariant the launch hands over, spelled with the two scratch buffers. -/
theorem scratch_eq (c : Dev nD) :
    (Pipeline.ΦA spec0 c : sProp 𝕄)
      = iprop(iprop((∃ d, owns (c : Thread nD τ) sumMem fullShare d) ∗ (∃ d, owns (c : Thread nD τ) expMem fullShare d)) ∗ (∃ r, prngReg c r)) := by
  unfold Pipeline.ΦA; rw [scopedRest0_eq]; simp only [sumMem, expMem, owns_whole]; try rfl

/-! ## The body run in each of its three cases, nothing said of what it stores -/

set_option maxHeartbeats 1000000 in
/-- The body at the first point runs to an end and keeps the input block. -/
theorem runFirst (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : atStart i) (hc1 : k0_cond2 i = 1#1) (hc2 : ¬k0_cond3 i = 1#1)
    (x0 : Vec F S4000x128 .f32) (E : Set ℕ) (K : PUnit → sProp 𝕄) :
    iprop(owns (c : Thread nD τ) arg1 fullShare x0 ∗ (∃ d, owns (c : Thread nD τ) arg3 fullShare d) ∗ (∃ d, owns (c : Thread nD τ) arg4 fullShare d)
        ∗ (iprop(owns (c : Thread nD τ) arg1 fullShare x0 ∗ (∃ d, owns (c : Thread nD τ) arg3 fullShare d) ∗ (∃ d, owns (c : Thread nD τ) arg4 fullShare d)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%ds0, %fs0, -, HS0⟩, ⟨%ds1, %fs1, %hfs1, HS1⟩, Hk⟩
  obtain rfl := harg1.eq_unread hf0; obtain rfl := harg4.eq_unread hfs1
  sl_exec (disch := first | sl_exact hc0 | sl_exact hc1 | sl_exact hc2)
  sl_step
  iapply Hk
  isplitl [H0]
  · iexists _; isplitr; · ipureintro; exact harg1.read_unread _
    iexact H0
  isplitl [HS0]
  · iexists _; iexists _; isplitr
    swap; · iexact HS0
    ipureintro; rfl
  iexists _; iexists _; isplitr
  swap; · iexact HS1
  ipureintro; rfl

set_option maxHeartbeats 1000000 in
/-- The body at a later point of the first 25 does too. -/
theorem runFill (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : k0_cond2 i = 1#1) (hc2 : ¬k0_cond3 i = 1#1)
    (x0 : Vec F S4000x128 .f32) (E : Set ℕ) (K : PUnit → sProp 𝕄) :
    iprop(owns (c : Thread nD τ) arg1 fullShare x0 ∗ (∃ d, owns (c : Thread nD τ) arg3 fullShare d) ∗ (∃ d, owns (c : Thread nD τ) arg4 fullShare d)
        ∗ (iprop(owns (c : Thread nD τ) arg1 fullShare x0 ∗ (∃ d, owns (c : Thread nD τ) arg3 fullShare d) ∗ (∃ d, owns (c : Thread nD τ) arg4 fullShare d)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%ds0, %fs0, %hfs0, HS0⟩, ⟨%ds1, %fs1, %hfs1, HS1⟩, Hk⟩
  obtain rfl := harg1.eq_unread hf0; obtain rfl := harg3.eq_unread hfs0; obtain rfl := harg4.eq_unread hfs1
  sl_exec (disch := first | sl_exact hc0 | sl_exact hc1 | sl_exact hc2)
  sl_step
  iapply Hk
  isplitl [H0]
  · iexists _; isplitr; · ipureintro; exact harg1.read_unread _
    iexact H0
  isplitl [HS0]
  · iexists _; iexists _; isplitr
    swap; · iexact HS0
    ipureintro; rfl
  iexists _; iexists _; isplitr
  swap; · iexact HS1
  ipureintro; rfl

set_option maxHeartbeats 1000000 in
/-- The body at one of the last 50 points runs to an end, storing in the output's staging buffer only. -/
theorem runScale (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : ¬k0_cond2 i = 1#1) (hc2 : k0_cond3 i = 1#1)
    (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d)
        ∗ (iprop((∃ d, owns (c : Thread nD τ) arg2 fullShare d) ∗ (∃ d, owns (c : Thread nD τ) arg3 fullShare d) ∗ (∃ d, owns (c : Thread nD τ) arg4 fullShare d)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%d1, %f1, -, H1⟩, ⟨%ds0, %fs0, %hfs0, HS0⟩, ⟨%ds1, %fs1, %hfs1, HS1⟩, Hk⟩
  obtain rfl := harg3.eq_unread hfs0; obtain rfl := harg4.eq_unread hfs1
  sl_exec (disch := first | sl_exact hc0 | sl_exact hc1 | sl_exact hc2)
  sl_step
  iapply Hk
  isplitl [H1]
  · iexists _; iexists _; isplitr
    swap; · iexact H1
    ipureintro; rfl
  isplitl [HS0]
  · iexists _; iexists _; isplitr
    swap; · iexact HS0
    ipureintro; rfl
  iexists _; iexists _; isplitr
  swap; · iexact HS1
  ipureintro; rfl

variable (m : (ℓ : Loc nD τ sig) → Buf (Elt F) ℓ) (ρ : Dev nD → PrngReg)

/-! ## The proof data: the input window at its block, nothing said of the output or the scratch -/

/-- The window of which nothing is said: the output. -/
def unsaid : Fin 2 → Bool := fun w => w.val == 1

/-- The input's buffer stays at its block, the scratch buffers hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

theorem Phi_eq (c : Dev nD) (t : Fin (cfg0.N + 1)) : (dats m 0 c).Φ t = Pipeline.ΦA spec0 c := by dsimp only [dats]

theorem live0 (t : Fin cfg0.N) : cfg0.idle 0 (grid0.coords t) = false := rfl

theorem leaves0 (c : Dev nD) (t : Fin cfg0.N) :
    (dats m 0 c).leavesExact 0 t = owns (c : Thread nD τ) (inMem t) fullShare (iblk m c 0 t) := by
  unfold Dat.leavesExact; rw [live0 t, after0_0]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inMem t) fullShare ((dats m 0 c).before 0 t d))
    ∗ (∃ d, owns (c : Thread nD τ) (outMem t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (∃ d, owns (c : Thread nD τ) (outMem t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [Phi_eq, Phi_eq, leaves0, scratch_eq]
  iintro ⟨⟨⟨HS0, HS1⟩, Hg⟩, Ho, ⟨%d0, H0⟩, H1⟩
  by_cases h25 : t.val < 25
  · have h3 : ¬k0_cond3 (grid0.coords t) = 1#1 := fun h => absurd ((scaling_iff t).mp h) (by omega)
    by_cases hz : t.val = 0
    · iapply (runFirst c (grid0.coords t) (inMem t) (inMem_whole t) (outMem t) (outMem_whole t) sumMem (Memref.isWhole_whole _) expMem (Memref.isWhole_whole _) ((atStart_iff t).mpr hz) ((filling_iff t).mpr h25) h3 (iblk m c 0 t) Set.univ _)
      isplitl [H0]; · iexact H0
      isplitl [HS0]; · iexact HS0
      isplitl [HS1]; · iexact HS1
      iintro ⟨H0, HS0, HS1⟩
      isplitl [HS0 HS1 Hg]
      · isplitl [HS0 HS1]
        · isplitl [HS0]
          · iexact HS0
          iexact HS1
        iexact Hg
      isplitl [Ho]; · iexact Ho
      isplitl [H0]; · iexact H0
      iexact H1
    · iapply (runFill c (grid0.coords t) (inMem t) (inMem_whole t) (outMem t) (outMem_whole t) sumMem (Memref.isWhole_whole _) expMem (Memref.isWhole_whole _) (fun h => hz ((atStart_iff t).mp h)) ((filling_iff t).mpr h25) h3 (iblk m c 0 t) Set.univ _)
      isplitl [H0]; · iexact H0
      isplitl [HS0]; · iexact HS0
      isplitl [HS1]; · iexact HS1
      iintro ⟨H0, HS0, HS1⟩
      isplitl [HS0 HS1 Hg]
      · isplitl [HS0 HS1]
        · isplitl [HS0]
          · iexact HS0
          iexact HS1
        iexact Hg
      isplitl [Ho]; · iexact Ho
      isplitl [H0]; · iexact H0
      iexact H1
  · iapply (runScale c (grid0.coords t) (inMem t) (inMem_whole t) (outMem t) (outMem_whole t) sumMem (Memref.isWhole_whole _) expMem (Memref.isWhole_whole _) (fun h => absurd ((atStart_iff t).mp h) (by omega)) (fun h => h25 ((filling_iff t).mp h)) ((scaling_iff t).mpr (by omega)) Set.univ _)
    isplitl [H1]; · iexact H1
    isplitl [HS0]; · iexact HS0
    isplitl [HS1]; · iexact HS1
    iintro ⟨H1, HS0, HS1⟩
    isplitl [HS0 HS1 Hg]
    · isplitl [HS0 HS1]
      · isplitl [HS0]
        · iexact HS0
        iexact HS1
      iexact Hg
    isplitl [Ho]; · iexact Ho
    isplitl [H0]; · iexact H0
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]
  try exact Idealize.SL.BI.Entails.refl _

theorem hout (c : Dev nD) : (dats m 0 c).Φ (Fin.last cfg0.N) ⊢ Pipeline.ΦA spec0 c := by
  rw [Phi_eq]
  try exact Idealize.SL.BI.Entails.refl _

/-! ## The launch -/

/-- The buffer the line after the region writes: the result. -/
def late : Finset (Ref sig .tc) := {main_v2}

theorem sfx_writes : ∀ ops ∈ ([hostOps1] : List (List (HloOp τ sig (Elt F)))), ∀ op ∈ ops,
    ∀ b : Ref sig .tc, Proc.devRef .tc b ∈ op.writes → b ∈ late := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
set_option maxHeartbeats 800000 in
/-- The program runs to an end, every counter at zero. -/
theorem run_main : θ_run defs (onTc (τ := τ) (main (F := F))) (s₀ m ρ)
    (fun r => (Pipeline.RDat.FramePostR (cfgs 0) (fun c => (dats m 0 c).toRForget unsaid) late (V m)) r ∧ r.2.sem = fun _ => 0) :=
  Pipeline.θ_run_frame_around_T_track_forget (Q' := _) cfgs (dats m) (0 : Fin 1) launch0 defs₀ Variants.none unsaid late m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- The logits end as launched, and every counter at zero. -/
theorem ends_kept : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c =>
    ((h.1 c).2 main_arg0 (Finset.mem_sdiff.mpr ⟨Pipeline.mem_restRefs_of main_arg0 (by decide) (by decide), by decide⟩)).trans (V_main_arg0 m c), h.2⟩) (run_main m ρ)

end Cert.Kernel.Gen

end
-- ==== Proof.Hash.lean ====
module

public import proofs.«01_k».proof.Proof.Gen.KernelIdeal.Skeleton

@[expose] public section

set_option maxRecDepth 16384

noncomputable section

namespace Cert.Soft

open Idealize.ShloMosaic Idealize.ShloMosaic.TcCoe Idealize.ShloMosaic.Tactic

/-! ## The hash of one counter -/

/-- A word turned left by `r` places, `s` being what is left of the word's width. -/
def turn (r s x : BitVec 32) : BitVec 32 := x <<< r ||| x >>> s

/-- One mixing round on a pair of words. -/
def mix (r s : BitVec 32) (p : BitVec 32 × BitVec 32) : BitVec 32 × BitVec 32 :=
  (p.1 + p.2, (p.1 + p.2) ^^^ turn r s p.2)

/-- Four rounds with the first set of turns. -/
def mixA (p : BitVec 32 × BitVec 32) : BitVec 32 × BitVec 32 := mix 6 26 (mix 26 6 (mix 15 17 (mix 13 19 p)))

/-- Four rounds with the second set of turns. -/
def mixB (p : BitVec 32 × BitVec 32) : BitVec 32 × BitVec 32 := mix 24 8 (mix 16 16 (mix 29 3 (mix 17 15 p)))

/-- The key is added between the groups of rounds: one word to the first, one and the group's number to the second. -/
def feed (a b n : BitVec 32) (p : BitVec 32 × BitVec 32) : BitVec 32 × BitVec 32 := (p.1 + a, p.2 + b + n)

/-- The third key word, made of the two words 0 and 42. -/
def third : BitVec 32 := (0#32 ^^^ 42#32) ^^^ 466688986#32

/-- The pair of words after all twenty rounds, from the second counter word with its key word added. -/
def rounds (y : BitVec 32) : BitVec 32 × BitVec 32 :=
  feed third 0 5 (mixA (feed 42 third 4 (mixB (feed 0 42 3 (mixA (feed third 0 2 (mixB (feed 42 third 1 (mixA (0, y))))))))))

/-- The random word of a counter. -/
def word (y : BitVec 32) : BitVec 32 := (rounds y).1 ^^^ (rounds y).2

/-! ## The same on vectors, as the kernel computes it -/

section Vec
variable {s : Shape}

/-- A pair of vectors read at an index. -/
def pairAt (p : IVec s 32 × IVec s 32) (i : s.Idx) : BitVec 32 × BitVec 32 := (p.1 i, p.2 i)

/-- One round on vectors. -/
def mixV (r l : BitVec 32) (p : IVec s 32 × IVec s 32) : IVec s 32 × IVec s 32 :=
  (addi p.1 p.2, xori (addi p.1 p.2) (ori (shli p.2 (broadcast s r)) (shrui p.2 (broadcast s l))))

/-- The first round where the first word is zero: the sum is the second word. -/
def mixV₀ (r l : BitVec 32) (y : IVec s 32) : IVec s 32 × IVec s 32 :=
  (y, xori y (ori (shli y (broadcast s r)) (shrui y (broadcast s l))))

/-- The key fed to vectors. -/
def feedV (a b n : BitVec 32) (p : IVec s 32 × IVec s 32) : IVec s 32 × IVec s 32 :=
  (addi p.1 (broadcast s a), addi (addi p.2 (broadcast s b)) (broadcast s n))

/-- A group of four rounds on vectors, with the first set of turns, -/
def mixVA (p : IVec s 32 × IVec s 32) : IVec s 32 × IVec s 32 := mixV 6 26 (mixV 26 6 (mixV 15 17 (mixV 13 19 p)))
/-- and with the second. -/
def mixVB (p : IVec s 32 × IVec s 32) : IVec s 32 × IVec s 32 := mixV 24 8 (mixV 16 16 (mixV 29 3 (mixV 17 15 p)))

/-- All the rounds on vectors. -/
def roundsV (y : IVec s 32) : IVec s 32 × IVec s 32 :=
  feedV third 0 5 (mixVA (feedV 42 third 4 (mixVB (feedV 0 42 3 (mixVA (feedV third 0 2 (mixVB (feedV 42 third 1
    (mixV 6 26 (mixV 26 6 (mixV 15 17 (mixV₀ 13 19 y))))))))))))

/-- The random words of a vector of counters. -/
def wordV (y : IVec s 32) : IVec s 32 := xori (roundsV y).1 (roundsV y).2

theorem mixV_at (r l : BitVec 32) (hr : r.toNat < 32) (hl : l.toNat < 32) (p : IVec s 32 × IVec s 32) (i : s.Idx) :
    pairAt (mixV r l p) i = mix r l (pairAt p i) := by
  show (p.1 i + p.2 i, (p.1 i + p.2 i) ^^^ (IntOp.shli .vector (p.2 i) r ||| IntOp.shrui .vector (p.2 i) l)) = _
  unfold IntOp.shli IntOp.shrui
  rw [if_pos hr, if_pos hl]; rfl

theorem mixV₀_at (r l : BitVec 32) (hr : r.toNat < 32) (hl : l.toNat < 32) (y : IVec s 32) (i : s.Idx) :
    pairAt (mixV₀ r l y) i = mix r l (0, y i) := by
  show (y i, y i ^^^ (IntOp.shli .vector (y i) r ||| IntOp.shrui .vector (y i) l)) = (0 + y i, (0 + y i) ^^^ turn r l (y i))
  unfold IntOp.shli IntOp.shrui
  rw [if_pos hr, if_pos hl, show (0 : BitVec 32) + y i = y i from BitVec.zero_add _]; rfl

theorem feedV_at (a b n : BitVec 32) (p : IVec s 32 × IVec s 32) (i : s.Idx) :
    pairAt (feedV a b n p) i = feed a b n (pairAt p i) := rfl

theorem mixVA_at (p : IVec s 32 × IVec s 32) (i : s.Idx) : pairAt (mixVA p) i = mixA (pairAt p i) := by
  unfold mixVA mixA
  rw [mixV_at _ _ (by decide) (by decide), mixV_at _ _ (by decide) (by decide), mixV_at _ _ (by decide) (by decide),
    mixV_at _ _ (by decide) (by decide)]

theorem mixVB_at (p : IVec s 32 × IVec s 32) (i : s.Idx) : pairAt (mixVB p) i = mixB (pairAt p i) := by
  unfold mixVB mixB
  rw [mixV_at _ _ (by decide) (by decide), mixV_at _ _ (by decide) (by decide), mixV_at _ _ (by decide) (by decide),
    mixV_at _ _ (by decide) (by decide)]

theorem roundsV_at (y : IVec s 32) (i : s.Idx) : pairAt (roundsV y) i = rounds (y i) := by
  unfold roundsV rounds
  rw [feedV_at, mixVA_at, feedV_at, mixVB_at, feedV_at, mixVA_at, feedV_at, mixVB_at, feedV_at,
    mixV_at _ _ (by decide) (by decide), mixV_at _ _ (by decide) (by decide), mixV_at _ _ (by decide) (by decide),
    mixV₀_at _ _ (by decide) (by decide)]
  rfl

/-- The vector of random words read at an index is the word of the counter there. -/
theorem wordV_at (y : IVec s 32) (i : s.Idx) : wordV y i = word (y i) := by
  show (pairAt (roundsV y) i).1 ^^^ (pairAt (roundsV y) i).2 = _
  rw [roundsV_at]; rfl

end Vec

/-! ## The kernel's payloads are that hash -/

open Cert.KernelIdeal Cert.KernelIdeal.Gen

variable {F : FTy → Type} [FloatOps F] [Named F]

/-- Four rounds from a first word of zero, but for the last round's turn of the second word. -/
theorem loop_part1 (v15 : IVec S80x128 32) (v16 : BitVec 32) (k : Fin k0_t1_loop.trips) (P : IVec S80x128 32 × IVec S80x128 32)
    (hP : P = mixV 26 6 (mixV 15 17 (mixV₀ 13 19 (k0_pay5 v15 v16 0#32 1#32 k)))) :
    k0_pay11 v15 v16 0#32 1#32 k = addi P.1 P.2 ∧ k0_pay12 v15 v16 0#32 1#32 k = shli P.2 (broadcast S80x128 6#32)
      ∧ k0_pay13 v15 v16 0#32 1#32 k = shrui P.2 (broadcast S80x128 26#32) := by
  subst hP; exact ⟨rfl, rfl, rfl⟩

theorem loop_part2 (a b d : IVec S80x128 32) (T : IVec S80x128 32 × IVec S80x128 32)
    (hT : T = feedV third 0 2 (mixVB (feedV 42 third 1 (a, xori a (ori b d))))) :
    k0_pay22 third a b d = T.2 ∧ k0_pay23 third a b d = addi T.1 T.2
      ∧ k0_pay24 third a b d = shli T.2 (broadcast S80x128 13#32) := by
  subst hT; exact ⟨rfl, rfl, rfl⟩

theorem loop_part3 (p q r : IVec S80x128 32) (T : IVec S80x128 32 × IVec S80x128 32)
    (hT : T = mixV 29 3 (mixV 17 15 (feedV 0 42 3 (mixV 6 26 (mixV 26 6 (mixV 15 17 (q, xori q (ori r (shrui p k0_pay25))))))))) :
    k0_pay36 p q r k0_pay25 = T.2 ∧ k0_pay37 p q r k0_pay25 = addi T.1 T.2 := by
  subst hT; exact ⟨rfl, rfl⟩

theorem loop_part4 (e f : IVec S80x128 32) (T : IVec S80x128 32 × IVec S80x128 32)
    (hT : T = mixVA (feedV 42 third 4 (mixV 24 8 (f, xori f (ori (shli e k0_pay38) (shrui e (broadcast S80x128 16#32))))))) :
    k0_pay48 third e f k0_pay38 = T.1 ∧ k0_pay49 third e f k0_pay38 = T.2 := by
  subst hT; exact ⟨rfl, rfl⟩

/-- The words made inside the loop are the hash of the counters two chunks ahead. -/
theorem loop_word (v15 : IVec S80x128 32) (v16 : BitVec 32) (k : Fin k0_t1_loop.trips) :
    let a := k0_pay11 v15 v16 0#32 1#32 k
    let b := k0_pay12 v15 v16 0#32 1#32 k
    let d := k0_pay13 v15 v16 0#32 1#32 k
    let p := k0_pay22 third a b d
    let q := k0_pay23 third a b d
    let r := k0_pay24 third a b d
    let e := k0_pay36 p q r k0_pay25
    let f := k0_pay37 p q r k0_pay25
    k0_pay144 (k0_pay48 third e f k0_pay38) (k0_pay49 third e f k0_pay38) (k0_pay50 third)
      = wordV (k0_pay5 v15 v16 0#32 1#32 k) := by
  intro a b d p q r e f
  obtain ⟨P, hP⟩ : ∃ P, P = mixV 26 6 (mixV 15 17 (mixV₀ 13 19 (k0_pay5 v15 v16 0#32 1#32 k))) := ⟨_, rfl⟩
  obtain ⟨h1, h2, h3⟩ := loop_part1 v15 v16 k P hP
  obtain ⟨T, hT⟩ : ∃ T, T = feedV third 0 2 (mixVB (feedV 42 third 1 (a, xori a (ori b d)))) := ⟨_, rfl⟩
  obtain ⟨h4, h5, h6⟩ := loop_part2 a b d T hT
  obtain ⟨U, hU⟩ : ∃ U, U = mixV 29 3 (mixV 17 15 (feedV 0 42 3 (mixV 6 26 (mixV 26 6 (mixV 15 17 (q, xori q (ori r (shrui p k0_pay25)))))))) := ⟨_, rfl⟩
  obtain ⟨h7, h8⟩ := loop_part3 p q r U hU
  obtain ⟨W, hW⟩ : ∃ W, W = mixVA (feedV 42 third 4 (mixV 24 8 (f, xori f (ori (shli e k0_pay38) (shrui e (broadcast S80x128 16#32)))))) := ⟨_, rfl⟩
  obtain ⟨h9, h10⟩ := loop_part4 e f W hW
  rw [h9, h10]
  have e1 : (a, xori a (ori b d)) = mixV 6 26 P := by rw [show a = _ from h1, show b = _ from h2, show d = _ from h3]; rfl
  have e2 : (q, xori q (ori r (shrui p k0_pay25))) = mixV 13 19 T := by rw [show p = _ from h4, show q = _ from h5, show r = _ from h6]; rfl
  have e3 : (f, xori f (ori (shli e k0_pay38) (shrui e (broadcast S80x128 16#32)))) = mixV 16 16 U := by
    rw [show e = _ from h7, show f = _ from h8]; rfl
  rw [e1, hP] at hT
  rw [e2, hT] at hU
  rw [e3, hU] at hW
  unfold wordV
  rw [show roundsV (k0_pay5 v15 v16 0#32 1#32 k) = feedV third 0 5 W by rw [hW]; rfl]
  rfl

/-- Four rounds of the first chunk, the key's first word already added. -/
theorem first_part1 (a0 : BitVec 32) (T : IVec S80x128 32 × IVec S80x128 32)
    (hT : T = mixV 6 26 (mixV 26 6 (mixV 15 17 (mixV₀ 13 19 (k0_pay52 a0))))) :
    k0_pay59 a0 = T.2 ∧ k0_pay60 a0 = addi T.1 (broadcast S80x128 42#32) := by
  subst hT; exact ⟨rfl, rfl⟩

theorem first_part2 (a b : IVec S80x128 32) (T : IVec S80x128 32 × IVec S80x128 32)
    (hT : T = mixV 13 19 (feedV third 0 2 (mixVB (b, addi (addi a (broadcast S80x128 third)) (broadcast S80x128 1#32))))) :
    k0_pay71 third a b = T.2 ∧ k0_pay72 third a b = addi T.1 T.2 := by
  subst hT; exact ⟨rfl, rfl⟩

theorem first_part3 (p q : IVec S80x128 32) (T : IVec S80x128 32 × IVec S80x128 32)
    (hT : T = mixV 29 3 (mixV 17 15 (feedV 0 42 3 (mixV 6 26 (mixV 26 6 (q, xori q (ori (shli p (broadcast S80x128 15#32)) (shrui p (broadcast S80x128 17#32))))))))) :
    k0_pay82 p q 15#32 = addi T.1 T.2
      ∧ k0_pay83 p q 15#32 = ori (shli T.2 (broadcast S80x128 16#32)) (shrui T.2 (broadcast S80x128 16#32)) := by
  subst hT; exact ⟨rfl, rfl⟩

theorem first_part4 (d e : IVec S80x128 32) (T : IVec S80x128 32 × IVec S80x128 32)
    (hT : T = mixVA (feedV 42 third 4 (mixV 24 8 (d, xori d e)))) :
    k0_pay94 third d e = addi T.1 (broadcast S80x128 third) ∧ k0_pay95 third d e = addi T.2 (broadcast S80x128 0#32) := by
  subst hT; exact ⟨rfl, rfl⟩

/-- The words of the first chunk, before the loop. -/
theorem first_word (a0 : BitVec 32) :
    let a := k0_pay59 a0
    let b := k0_pay60 a0
    let p := k0_pay71 third a b
    let q := k0_pay72 third a b
    let d := k0_pay82 p q 15#32
    let e := k0_pay83 p q 15#32
    xori (k0_pay94 third d e) (addi (k0_pay95 third d e) (broadcast S80x128 5#32)) = wordV (k0_pay52 a0) := by
  intro a b p q d e
  obtain ⟨P, hP⟩ : ∃ P, P = mixV 6 26 (mixV 26 6 (mixV 15 17 (mixV₀ 13 19 (k0_pay52 a0)))) := ⟨_, rfl⟩
  obtain ⟨h1, h2⟩ := first_part1 a0 P hP
  obtain ⟨T, hT⟩ : ∃ T, T = mixV 13 19 (feedV third 0 2 (mixVB (b, addi (addi a (broadcast S80x128 third)) (broadcast S80x128 1#32)))) := ⟨_, rfl⟩
  obtain ⟨h4, h5⟩ := first_part2 a b T hT
  obtain ⟨U, hU⟩ : ∃ U, U = mixV 29 3 (mixV 17 15 (feedV 0 42 3 (mixV 6 26 (mixV 26 6 (q, xori q (ori (shli p (broadcast S80x128 15#32)) (shrui p (broadcast S80x128 17#32)))))))) := ⟨_, rfl⟩
  obtain ⟨h7, h8⟩ := first_part3 p q U hU
  obtain ⟨W, hW⟩ : ∃ W, W = mixVA (feedV 42 third 4 (mixV 24 8 (d, xori d e))) := ⟨_, rfl⟩
  obtain ⟨h9, h10⟩ := first_part4 d e W hW
  rw [h9, h10]
  have e1 : (b, addi (addi a (broadcast S80x128 third)) (broadcast S80x128 1#32)) = feedV 42 third 1 P := by
    rw [show a = _ from h1, show b = _ from h2]; rfl
  have e2 : (q, xori q (ori (shli p (broadcast S80x128 15#32)) (shrui p (broadcast S80x128 17#32)))) = mixV 15 17 T := by
    rw [show p = _ from h4, show q = _ from h5]; rfl
  have e3 : (d, xori d e) = mixV 16 16 U := by rw [show d = _ from h7, show e = _ from h8]; rfl
  rw [e1, hP] at hT
  rw [e2, hT] at hU
  rw [e3, hU] at hW
  unfold wordV
  rw [show roundsV (k0_pay52 a0) = feedV third 0 5 W by rw [hW]; rfl]
  rfl

/-- Four rounds of the second chunk, but for the last round's turn of the second word. -/
theorem second_part1 (v15 : IVec S80x128 32) (v16 : BitVec 32) (T : IVec S80x128 32 × IVec S80x128 32)
    (hT : T = mixV 26 6 (mixV 15 17 (mixV₀ 13 19 (k0_pay97 v15 v16)))) :
    k0_pay103 v15 v16 = addi T.1 T.2
      ∧ k0_pay104 v15 v16 = ori (shli T.2 (broadcast S80x128 6#32)) (shrui T.2 (broadcast S80x128 26#32)) := by
  subst hT; exact ⟨rfl, rfl⟩

theorem second_part2 (a b : IVec S80x128 32) (T : IVec S80x128 32 × IVec S80x128 32)
    (hT : T = feedV third 0 2 (mixVB (feedV 42 third 1 (a, xori a b)))) :
    k0_pay114 third a b = addi T.1 T.2 ∧ k0_pay115 third a b = shli T.2 (broadcast S80x128 13#32)
      ∧ k0_pay116 third a b = shrui T.2 (broadcast S80x128 19#32) := by
  subst hT; exact ⟨rfl, rfl, rfl⟩

theorem second_part3 (p q r : IVec S80x128 32) (T : IVec S80x128 32 × IVec S80x128 32)
    (hT : T = mixV 29 3 (mixV 17 15 (feedV 0 42 3 (mixV 6 26 (mixV 26 6 (mixV 15 17 (p, xori p (ori q r)))))))) :
    k0_pay127 p q r = T.2 ∧ k0_pay128 p q r = addi T.1 T.2
      ∧ k0_pay129 p q r = shli T.2 (broadcast S80x128 16#32) := by
  subst hT; exact ⟨rfl, rfl, rfl⟩

theorem second_part4 (d e f : IVec S80x128 32) (T : IVec S80x128 32 × IVec S80x128 32)
    (hT : T = mixVA (feedV 42 third 4 (mixV 24 8 (e, xori e (ori f (shrui d (broadcast S80x128 16#32))))))) :
    k0_pay140 third d e f = T.2 ∧ k0_pay141 third d e f = addi T.1 (broadcast S80x128 third) := by
  subst hT; exact ⟨rfl, rfl⟩

/-- The words of the second chunk, before the loop. -/
theorem second_word (v15 : IVec S80x128 32) (v16 : BitVec 32) :
    let a := k0_pay103 v15 v16
    let b := k0_pay104 v15 v16
    let p := k0_pay114 third a b
    let q := k0_pay115 third a b
    let r := k0_pay116 third a b
    let d := k0_pay127 p q r
    let e := k0_pay128 p q r
    let f := k0_pay129 p q r
    k0_pay142 (k0_pay140 third d e f) (k0_pay141 third d e f) = wordV (k0_pay97 v15 v16) := by
  intro a b p q r d e f
  obtain ⟨P, hP⟩ : ∃ P, P = mixV 26 6 (mixV 15 17 (mixV₀ 13 19 (k0_pay97 v15 v16))) := ⟨_, rfl⟩
  obtain ⟨h1, h2⟩ := second_part1 v15 v16 P hP
  obtain ⟨T, hT⟩ : ∃ T, T = feedV third 0 2 (mixVB (feedV 42 third 1 (a, xori a b))) := ⟨_, rfl⟩
  obtain ⟨h4, h5, h6⟩ := second_part2 a b T hT
  obtain ⟨U, hU⟩ : ∃ U, U = mixV 29 3 (mixV 17 15 (feedV 0 42 3 (mixV 6 26 (mixV 26 6 (mixV 15 17 (p, xori p (ori q r))))))) := ⟨_, rfl⟩
  obtain ⟨h7, h8, h11⟩ := second_part3 p q r U hU
  obtain ⟨W, hW⟩ : ∃ W, W = mixVA (feedV 42 third 4 (mixV 24 8 (e, xori e (ori f (shrui d (broadcast S80x128 16#32)))))) := ⟨_, rfl⟩
  obtain ⟨h9, h10⟩ := second_part4 d e f W hW
  rw [h9, h10]
  have e1 : (a, xori a b) = mixV 6 26 P := by rw [show a = _ from h1, show b = _ from h2]; rfl
  have e2 : (p, xori p (ori q r)) = mixV 13 19 T := by
    rw [show p = _ from h4, show q = _ from h5, show r = _ from h6]; rfl
  have e3 : (e, xori e (ori f (shrui d (broadcast S80x128 16#32)))) = mixV 16 16 U := by
    rw [show d = _ from h7, show e = _ from h8, show f = _ from h11]; rfl
  rw [e1, hP] at hT
  rw [e2, hT] at hU
  rw [e3, hU] at hW
  unfold wordV
  rw [show roundsV (k0_pay97 v15 v16) = feedV third 0 5 W by rw [hW]; rfl]
  rfl

end Cert.Soft

end
-- ==== Proof.RefRun.lean ====
module

public import proofs.«01_k».proof.Proof.Gen.ReferenceIdeal
public import proofs.«01_k».proof.Proof.Hash
public import Idealize.ShloMosaic.Lib.StableHlo.RunHlo
public import Idealize.ShloMosaic.Lib.StableHlo.RunRead
public import Idealize.ShloMosaic.Lib.Claim
public import Idealize.ShloMosaic.Lib.Pipeline.Frame

@[expose] public section

set_option maxRecDepth 16384

noncomputable section

namespace Cert.ReferenceIdeal.Gen

open Idealize.ShloMosaic Idealize.ShloMosaic.TcCoe Idealize.ShloMosaic.StableHlo
open Idealize.SL.Sem
open Cert.Soft

variable {F : FTy → Type} [FloatOps F]

/-- The programs of the reference. -/
abbrev Line (F : FTy → Type) [FloatOps F] := Prog (TpuEff nD τ sig (Elt F) (Pipeline.Sig Λ₀ (Fin 0) fun p => (pcfgs (F := F) p).Adm) .tc) PUnit
/-- Lists of its operations. -/
abbrev Ops (F : FTy → Type) := List (HloOp τ sig (Elt F))

/-! ## The reference's operations, as lists -/

/-- A program that is a straight line of operations, with the line. -/
def readOff {p : Line F} {ops : Ops F} (h : IsSeq p ops) : { ops : Ops F // IsSeq p ops } := ⟨ops, h⟩

/-- The same for one program per device. -/
def readOffAll {p : Dev nD → Line F} {ops : Ops F} (h : ∀ d, IsSeq (p d) ops) : { ops : Ops F // ∀ d, IsSeq (p d) ops } := ⟨ops, h⟩

/-- Two straight lines after one another are one. -/
theorem IsSeq.both {p k : Line F} {a b : Ops F} (hp : IsSeq p a) (hk : IsSeq k b) : IsSeq (p >>= fun _ => k) (a ++ b) := by
  unfold IsSeq at hp hk ⊢
  rw [hp, hk, seq_append]

/-- The program opens with the operations `a` and goes on as `k`. -/
def Lead (p : Line F) (a : Ops F) (k : Line F) : Prop := p = (seq a >>= fun _ => k)

theorem Lead.here {k : Line F} : Lead k [] k := rfl

theorem Lead.step {op : HloOp τ sig (Elt F)} {p k : Line F} {a : Ops F} (h : Lead p a k) :
    Lead ((hlo rfl op fun _ => .ret (⟨⟩ : PUnit)) >>= fun _ => p) (op :: a) k := by
  unfold Lead at h ⊢; rw [h]; rfl

/-- An opening with the operations read off. -/
def leadOff {p k : Line F} {a : Ops F} (h : Lead p a k) : { a : Ops F // Lead p a k } := ⟨a, h⟩

/-- The operations of the hash's first quarter, -/
def hash0 : { ops : Ops F // IsSeq (fn_threefry2x32.body_part0 (F := F) (.of main_v8) (.of main_v10) (.of main_v21) (.of main_v20) main_call0) ops } :=
  by apply readOff; unfold fn_threefry2x32.body_part0; hlo_seq
/-- of its second, -/
def hash1 : { ops : Ops F // IsSeq (fn_threefry2x32.body_part1 (F := F) (.of main_v8) (.of main_v10) (.of main_v21) (.of main_v20) main_call0) ops } :=
  by apply readOff; unfold fn_threefry2x32.body_part1; hlo_seq
/-- of its third, -/
def hash2 : { ops : Ops F // IsSeq (fn_threefry2x32.body_part2 (F := F) (.of main_v8) (.of main_v10) (.of main_v21) (.of main_v20) main_call0) ops } :=
  by apply readOff; unfold fn_threefry2x32.body_part2; hlo_seq
/-- and of its last. -/
def hash3 : { ops : Ops F // IsSeq (fn_threefry2x32.body_part3 (F := F) (.of main_v8) (.of main_v10) (.of main_v21) (.of main_v20) main_call0) ops } :=
  by apply readOff; unfold fn_threefry2x32.body_part3; hlo_seq

/-! ## The hash, in the host's operations -/

/-- A number at every place. -/
def bc (n : BitVec 32) : IVec S128x100000 32 := broadcastInDim S128x100000 ![] bcast_S_S128x100000 (constantI S_ 32 n)

/-- A scalar at every place. -/
def bs (a : IVec S_ 32) : IVec S128x100000 32 := broadcastInDim S128x100000 ![] bcast_S_S128x100000 a

/-- One round. -/
def mixH (r l : BitVec 32) (p : IVec S128x100000 32 × IVec S128x100000 32) : IVec S128x100000 32 × IVec S128x100000 32 :=
  (addi p.1 p.2, xori (addi p.1 p.2) (ori (Host.shli p.2 (bc r)) (Host.shrui p.2 (bc l))))

/-- One round whose sum `s` is at hand. -/
def mixS (r l : BitVec 32) (s q : IVec S128x100000 32) : IVec S128x100000 32 × IVec S128x100000 32 :=
  (s, xori s (ori (Host.shli q (bc r)) (Host.shrui q (bc l))))

/-- The key fed in. -/
def feedH (a b : IVec S_ 32) (n : BitVec 32) (p : IVec S128x100000 32 × IVec S128x100000 32) :
    IVec S128x100000 32 × IVec S128x100000 32 :=
  (addi p.1 (bs a), addi (addi p.2 (bs b)) (bc n))

/-- The third key word. -/
def thirdH (a b : IVec S_ 32) : IVec S_ 32 := xori (xori a b) (constantI S_ 32 466688986#32)

section Quarters
variable (V : Valuation τ sig (Elt F)) (a b : IVec S_ 32)

theorem hash0_v1 (ha : V (Proc.devRef .tc main_v8) = a) (hb : V (Proc.devRef .tc main_v10) = b) :
    after hash0.1 V (Proc.devRef .tc main_call0_v1) = thirdH a b := by
  subst ha hb
  delta hash0
  after_reads_simp
  rfl

theorem hash0_read (x y : IVec S128x100000 32) (ha : V (Proc.devRef .tc main_v8) = a) (hb : V (Proc.devRef .tc main_v10) = b)
    (hx : V (Proc.devRef .tc main_v21) = x) (hy : V (Proc.devRef .tc main_v20) = y)
    (T : IVec S128x100000 32 × IVec S128x100000 32)
    (hT : T = mixH 17 15 (feedH b (thirdH a b) 1 (mixH 6 26 (mixH 26 6 (mixH 15 17 (mixH 13 19 (addi x (bs a), addi y (bs b)))))))) :
    after hash0.1 V (Proc.devRef .tc main_call0_v46) = T.2 ∧ after hash0.1 V (Proc.devRef .tc main_call0_v47) = addi T.1 T.2 := by
  subst ha hb hx hy hT
  delta hash0
  constructor <;> after_reads_simp <;> rfl

theorem hash1_read (s q : IVec S128x100000 32) (T : IVec S128x100000 32 × IVec S128x100000 32) (c : IVec S_ 32)
    (ha : V (Proc.devRef .tc main_v8) = a) (hc : V (Proc.devRef .tc main_call0_v1) = c)
    (hx : V (Proc.devRef .tc main_call0_v46) = q) (hy : V (Proc.devRef .tc main_call0_v47) = s)
    (hT : T = mixH 26 6 (mixH 15 17 (mixH 13 19 (feedH c a 2 (mixH 24 8 (mixH 16 16 (mixS 29 3 s q))))))) :
    after hash1.1 V (Proc.devRef .tc main_call0_v94) = T.2 ∧ after hash1.1 V (Proc.devRef .tc main_call0_v88) = T.1 := by
  subst ha hc hx hy hT
  delta hash1
  constructor <;> after_reads_simp <;> rfl

set_option maxHeartbeats 1600000 in
theorem hash2_read (P : IVec S128x100000 32 × IVec S128x100000 32) (T : IVec S128x100000 32 × IVec S128x100000 32) (c : IVec S_ 32)
    (ha : V (Proc.devRef .tc main_v8) = a) (hb : V (Proc.devRef .tc main_v10) = b) (hc : V (Proc.devRef .tc main_call0_v1) = c)
    (hx : V (Proc.devRef .tc main_call0_v94) = P.2) (hy : V (Proc.devRef .tc main_call0_v88) = P.1)
    (hT : T = feedH b c 4 (mixH 24 8 (mixH 16 16 (mixH 29 3 (mixH 17 15 (feedH a b 3 (mixH 6 26 P))))))) :
    after hash2.1 V (Proc.devRef .tc main_call0_v141) = T.2 ∧ after hash2.1 V (Proc.devRef .tc main_call0_v142) = addi T.1 T.2 := by
  obtain ⟨p, q⟩ := P
  dsimp only at hx hy
  subst ha hb hc hx hy hT
  delta hash2
  constructor <;> after_reads_simp <;> rfl

theorem hash3_read (s q : IVec S128x100000 32) (T : IVec S128x100000 32 × IVec S128x100000 32) (c : IVec S_ 32)
    (ha : V (Proc.devRef .tc main_v8) = a) (hc : V (Proc.devRef .tc main_call0_v1) = c)
    (hx : V (Proc.devRef .tc main_call0_v141) = q) (hy : V (Proc.devRef .tc main_call0_v142) = s)
    (hT : T = feedH c a 5 (mixH 6 26 (mixH 26 6 (mixH 15 17 (mixS 13 19 s q))))) :
    after hash3.1 V (Proc.devRef .tc main_v22_0) = T.1 ∧ after hash3.1 V (Proc.devRef .tc main_v22_1) = T.2 := by
  subst ha hc hx hy hT
  delta hash3
  constructor <;> after_reads_simp <;> rfl

/-- What a quarter of the hash leaves as it found it. -/
theorem hash0_keep : after hash0.1 V (Proc.devRef .tc main_v8) = V (Proc.devRef .tc main_v8)
    ∧ after hash0.1 V (Proc.devRef .tc main_v10) = V (Proc.devRef .tc main_v10)
    ∧ after hash0.1 V (Proc.devRef .tc main_arg0) = V (Proc.devRef .tc main_arg0) := by
  delta hash0
  refine ⟨?_, ?_, ?_⟩ <;> after_reads_simp

theorem hash1_keep : after hash1.1 V (Proc.devRef .tc main_v8) = V (Proc.devRef .tc main_v8)
    ∧ after hash1.1 V (Proc.devRef .tc main_v10) = V (Proc.devRef .tc main_v10)
    ∧ after hash1.1 V (Proc.devRef .tc main_arg0) = V (Proc.devRef .tc main_arg0)
    ∧ after hash1.1 V (Proc.devRef .tc main_call0_v1) = V (Proc.devRef .tc main_call0_v1) := by
  delta hash1
  refine ⟨?_, ?_, ?_, ?_⟩ <;> after_reads_simp

theorem hash2_keep : after hash2.1 V (Proc.devRef .tc main_v8) = V (Proc.devRef .tc main_v8)
    ∧ after hash2.1 V (Proc.devRef .tc main_arg0) = V (Proc.devRef .tc main_arg0)
    ∧ after hash2.1 V (Proc.devRef .tc main_call0_v1) = V (Proc.devRef .tc main_call0_v1) := by
  delta hash2
  refine ⟨?_, ?_, ?_⟩ <;> after_reads_simp

theorem hash3_keep : after hash3.1 V (Proc.devRef .tc main_arg0) = V (Proc.devRef .tc main_arg0) := by
  delta hash3
  after_reads_simp

end Quarters

/-! ## The whole program -/

/-- The hash as one straight line. -/
theorem hash_isSeq : IsSeq (fn_threefry2x32.body (F := F) (.of main_v8) (.of main_v10) (.of main_v21) (.of main_v20) main_call0)
    (hash0.1 ++ (hash1.1 ++ (hash2.1 ++ hash3.1))) := by
  unfold fn_threefry2x32.body
  exact IsSeq.both hash0.2 (IsSeq.both hash1.2 (IsSeq.both hash2.2 hash3.2))

/-- A program with a known middle: its opening and its close read off. -/
def splitOff {p : Dev nD → Line F} {b k : Line F} {a h c : Ops F} (hl : ∀ d, Lead (p d) a (b >>= fun _ => k)) (hb : IsSeq b h)
    (hk : IsSeq k c) : { ac : Ops F × Ops F // ∀ d, IsSeq (p d) (ac.1 ++ (h ++ ac.2)) } :=
  ⟨(a, c), fun d => by
    have e := hl d
    unfold Lead at e
    rw [e]
    exact IsSeq.both rfl (IsSeq.both hb hk)⟩

/-- The operations before the hash and those after it, up to the rows' maxima. -/
def around : { ac : Ops F × Ops F // ∀ d, IsSeq (main_part0 (F := F) d) (ac.1 ++ ((hash0.1 ++ (hash1.1 ++ (hash2.1 ++ hash3.1))) ++ ac.2)) } := by
  apply splitOff
  case hb => exact hash_isSeq
  case hl =>
    intro d
    unfold main_part0
    repeat (first | with_reducible exact Lead.here (F := F) | apply Lead.step (F := F))
  case hk => hlo_seq

/-- The operations from there on. -/
def close : { c : Ops F // ∀ d, IsSeq (main_part1 (F := F) d) c } := by
  apply readOffAll
  intro d
  unfold main_part1
  hlo_seq

theorem main_isSeq (d : Dev nD) : IsSeq (main (F := F) d)
    ((around.1.1 ++ ((hash0.1 ++ (hash1.1 ++ (hash2.1 ++ hash3.1))) ++ around.1.2)) ++ close.1) := by
  unfold main
  exact IsSeq.both (around.2 d) (close.2 d)

end Cert.ReferenceIdeal.Gen

end
-- ==== Proof.RefVal.lean ====
module

public import proofs.«01_k».proof.Proof.RefRun
public import Idealize.ShloMosaic.Lib.Pointwise
public import Idealize.ShloMosaic.Lib.IdealHost

@[expose] public section

set_option maxRecDepth 16384

noncomputable section

namespace Cert.ReferenceIdeal.Gen

open Idealize.ShloMosaic Idealize.ShloMosaic.TcCoe Idealize.ShloMosaic.StableHlo Idealize.ShloMosaic.ValueIdx
open Idealize.SL.Sem
open Cert.Soft

/-! ## The hash's operands -/

section Before
variable {F : FTy → Type} [FloatOps F] (V : Valuation τ sig (Elt F))

/-- The two key words before they are put side by side. -/
theorem before_v2 : upto around.1.1 V 9 (Proc.devRef .tc main_v2) = (fun _ => 0#32 : IVec S1 32) := by
  delta around
  after_reads_simp
  funext i
  rfl

theorem before_v5 : upto around.1.1 V 9 (Proc.devRef .tc main_v5) = (fun _ => 42#32 : IVec S1 32) := by
  delta around
  after_reads_simp
  funext i
  show (42#32 &&& 4294967295#32) = 42#32
  decide

theorem before_v8 : after around.1.1 V (Proc.devRef .tc main_v8) = constantI S_ 32 0#32 := by
  have h2 := before_v2 V
  have h5 := before_v5 V
  revert h2 h5
  delta around
  intro h2 h5
  after_reads_simp
  rw [h2, h5]
  funext i
  have : i = ValueIdx.ix0 := eq_ix0 i
  subst this
  rfl

theorem before_v10 : after around.1.1 V (Proc.devRef .tc main_v10) = constantI S_ 32 42#32 := by
  have h2 := before_v2 V
  have h5 := before_v5 V
  revert h2 h5
  delta around
  intro h2 h5
  after_reads_simp
  rw [h2, h5]
  funext i
  have : i = ValueIdx.ix0 := eq_ix0 i
  subst this
  rfl

/-- The counter of a place: 100000 times the row, plus the column. -/
def counter (i : S128x100000.Idx) : BitVec 32 := BitVec.ofNat 32 (100000 * (i 0).val + (i 1).val)

theorem before_v20 : after around.1.1 V (Proc.devRef .tc main_v20) = (fun i => counter i : IVec S128x100000 32) := by
  delta around
  after_reads_simp
  funext i
  show BitVec.setWidth 32 (100000#64 * BitVec.ofNat 64 (i 0).val + 1#64 * BitVec.ofNat 64 (i 1).val) = _
  unfold counter
  apply BitVec.eq_of_toNat_eq
  have h0 : (i 0).val < 128 := idx2_lt0 i
  have h1 : (i 1).val < 100000 := idx2_lt1 i
  simp only [BitVec.toNat_setWidth, BitVec.toNat_add, BitVec.toNat_mul, BitVec.toNat_ofNat]
  omega

theorem before_v21 : after around.1.1 V (Proc.devRef .tc main_v21) = (fun i => 0#32 : IVec S128x100000 32) := by
  delta around
  after_reads_simp
  funext i
  show BitVec.setWidth 32 (IntOp.shrui .host (100000#64 * BitVec.ofNat 64 (i 0).val + 1#64 * BitVec.ofNat 64 (i 1).val) 32#64) = _
  unfold IntOp.shrui
  rw [if_pos (by decide)]
  apply BitVec.eq_of_toNat_eq
  have h0 : (i 0).val < 128 := idx2_lt0 i
  have h1 : (i 1).val < 100000 := idx2_lt1 i
  have hX : (100000#64 * BitVec.ofNat 64 (i 0).val + 1#64 * BitVec.ofNat 64 (i 1).val).toNat = 100000 * (i 0).val + (i 1).val := by
    simp only [BitVec.toNat_add, BitVec.toNat_mul, BitVec.toNat_ofNat]
    omega
  rw [BitVec.toNat_setWidth, BitVec.ushiftRight_eq', BitVec.toNat_ushiftRight, hX]
  show (100000 * (i 0).val + (i 1).val) >>> 32 % 2 ^ 32 = 0
  have hb : 100000 * (i 0).val + (i 1).val < 2 ^ 32 := by omega
  rw [Nat.shiftRight_eq_div_pow, Nat.div_eq_of_lt hb]

theorem before_arg0 : after around.1.1 V (Proc.devRef .tc main_arg0) = V (Proc.devRef .tc main_arg0) := by
  delta around
  after_reads_simp

end Before

/-! ## The hash at a place -/

section Hash

theorem mixH_at (r l : BitVec 32) (hr : r.toNat < 32) (hl : l.toNat < 32) (p : IVec S128x100000 32 × IVec S128x100000 32) (i : S128x100000.Idx) :
    pairAt (mixH r l p) i = mix r l (pairAt p i) := by
  show (p.1 i + p.2 i, (p.1 i + p.2 i) ^^^ (IntOp.shli .host (p.2 i) r ||| IntOp.shrui .host (p.2 i) l)) = _
  unfold IntOp.shli IntOp.shrui
  rw [if_pos hr, if_pos hl]; rfl

theorem mixS_at (r l : BitVec 32) (hr : r.toNat < 32) (hl : l.toNat < 32) (p : IVec S128x100000 32 × IVec S128x100000 32) (i : S128x100000.Idx) :
    pairAt (mixS r l (addi p.1 p.2) p.2) i = mix r l (pairAt p i) := mixH_at r l hr hl p i

theorem feedH_at (a b : IVec S_ 32) (n : BitVec 32) (p : IVec S128x100000 32 × IVec S128x100000 32) (i : S128x100000.Idx) :
    pairAt (feedH a b n p) i = feed (a ValueIdx.ix0) (b ValueIdx.ix0) n (pairAt p i) := by
  show (p.1 i + bs a i, p.2 i + bs b i + n) = _
  unfold bs
  rw [broadcastInDim_scalar_apply, broadcastInDim_scalar_apply]; rfl

end Hash

variable {F : FTy → Type} [FloatOps F] (V : Valuation τ sig (Elt F))

/-- The whole hash. -/
abbrev hashOps : Ops F := hash0.1 ++ (hash1.1 ++ (hash2.1 ++ hash3.1))

theorem after_app (a b : Ops F) (V : Valuation τ sig (Elt F)) : after (a ++ b) V = after b (after a V) := by
  induction a generalizing V with
  | nil => rfl
  | cons op l ih => exact ih _

/-- After the hash its two results are, exclusive or taken, the random words of the counters. -/
theorem hash_word (y : IVec S128x100000 32) (ha : V (Proc.devRef .tc main_v8) = constantI S_ 32 0#32)
    (hb : V (Proc.devRef .tc main_v10) = constantI S_ 32 42#32) (hx : V (Proc.devRef .tc main_v21) = (fun i => 0#32 : IVec S128x100000 32))
    (hy : V (Proc.devRef .tc main_v20) = y) :
    ∃ T : IVec S128x100000 32 × IVec S128x100000 32, after hashOps V (Proc.devRef .tc main_v22_0) = T.1 ∧ after hashOps V (Proc.devRef .tc main_v22_1) = T.2
      ∧ ∀ i, xori T.1 T.2 i = word (y i + 42) := by
  unfold hashOps
  rw [after_app, after_app, after_app]
  have k0 := hash0_keep V
  have c0 := hash0_v1 V _ _ ha hb
  have r0 := hash0_read V _ _ _ _ ha hb hx hy _ rfl
  obtain ⟨A0, eA0⟩ : ∃ A, A = (addi (fun i => 0#32 : IVec S128x100000 32) (bs (constantI S_ 32 0#32)), addi y (bs (constantI S_ 32 42#32))) := ⟨_, rfl⟩
  rw [← eA0] at r0
  obtain ⟨T0, eT0⟩ : ∃ T, T = mixH 17 15 (feedH (constantI S_ 32 42#32) (thirdH (constantI S_ 32 0#32) (constantI S_ 32 42#32)) 1 (mixH 6 26 (mixH 26 6 (mixH 15 17 (mixH 13 19 A0))))) := ⟨_, rfl⟩
  rw [← eT0] at r0
  have t0 : ∀ i, pairAt T0 i = mix 17 15 (feed 42 third 1 (mixA (0, y i + 42))) := by
    intro i
    rw [eT0, mixH_at _ _ (by decide) (by decide), feedH_at, mixH_at _ _ (by decide) (by decide), mixH_at _ _ (by decide) (by decide),
      mixH_at _ _ (by decide) (by decide), mixH_at _ _ (by decide) (by decide), eA0]
    have : pairAt (addi (fun i => 0#32 : IVec S128x100000 32) (bs (constantI S_ 32 0#32)), addi y (bs (constantI S_ 32 42#32))) i = (0, y i + 42) := rfl
    rw [this]; rfl
  generalize hV1 : after hash0.1 V = V1 at *
  have k1 := hash1_keep V1
  have r1 := hash1_read V1 _ _ _ _ _ (k0.1.trans ha) c0 r0.1 r0.2 rfl
  obtain ⟨T1, eT1⟩ : ∃ T, T = mixH 26 6 (mixH 15 17 (mixH 13 19 (feedH (thirdH (constantI S_ 32 0#32) (constantI S_ 32 42#32)) (constantI S_ 32 0#32) 2 (mixH 24 8 (mixH 16 16 (mixS 29 3 (addi T0.1 T0.2) T0.2)))))) := ⟨_, rfl⟩
  rw [← eT1] at r1
  have t1 : ∀ i, pairAt T1 i = mix 26 6 (mix 15 17 (mix 13 19 (feed third 0 2 (mixB (feed 42 third 1 (mixA (0, y i + 42))))))) := by
    intro i
    rw [eT1, mixH_at _ _ (by decide) (by decide), mixH_at _ _ (by decide) (by decide), mixH_at _ _ (by decide) (by decide), feedH_at,
      mixH_at _ _ (by decide) (by decide), mixH_at _ _ (by decide) (by decide), mixS_at _ _ (by decide) (by decide), t0]
    rfl
  generalize hV2 : after hash1.1 V1 = V2 at *
  have k2 := hash2_keep V2
  have r2 := hash2_read V2 _ _ T1 _ _ (k1.1.trans (k0.1.trans ha)) (k1.2.1.trans (k0.2.1.trans hb)) (k1.2.2.2.trans c0) r1.1 r1.2 rfl
  obtain ⟨T2, eT2⟩ : ∃ T, T = feedH (constantI S_ 32 42#32) (thirdH (constantI S_ 32 0#32) (constantI S_ 32 42#32)) 4 (mixH 24 8 (mixH 16 16 (mixH 29 3 (mixH 17 15 (feedH (constantI S_ 32 0#32) (constantI S_ 32 42#32) 3 (mixH 6 26 T1)))))) := ⟨_, rfl⟩
  rw [← eT2] at r2
  have t2 : ∀ i, pairAt T2 i = feed 42 third 4 (mixB (feed 0 42 3 (mixA (feed third 0 2 (mixB (feed 42 third 1 (mixA (0, y i + 42)))))))) := by
    intro i
    rw [eT2, feedH_at, mixH_at _ _ (by decide) (by decide), mixH_at _ _ (by decide) (by decide), mixH_at _ _ (by decide) (by decide),
      mixH_at _ _ (by decide) (by decide), feedH_at, mixH_at _ _ (by decide) (by decide), t1]
    rfl
  generalize hV3 : after hash2.1 V2 = V3 at *
  have r3 := hash3_read V3 _ _ _ _ _ (k2.1.trans (k1.1.trans (k0.1.trans ha))) (k2.2.2.trans (k1.2.2.2.trans c0)) r2.1 r2.2 rfl
  refine ⟨_, r3.1, r3.2, fun i => ?_⟩
  obtain ⟨T3, eT3⟩ : ∃ T, T = feedH (thirdH (constantI S_ 32 0#32) (constantI S_ 32 42#32)) (constantI S_ 32 0#32) 5 (mixH 6 26 (mixH 26 6 (mixH 15 17 (mixS 13 19 (addi T2.1 T2.2) T2.2)))) := ⟨_, rfl⟩
  rw [← eT3]
  have t3 : pairAt T3 i = rounds (y i + 42) := by
    rw [eT3, feedH_at, mixH_at _ _ (by decide) (by decide), mixH_at _ _ (by decide) (by decide), mixH_at _ _ (by decide) (by decide),
      mixS_at _ _ (by decide) (by decide), t2]
    rfl
  show (pairAt T3 i).1 ^^^ (pairAt T3 i).2 = _
  rw [t3]; rfl

theorem hash_arg0 : after hashOps V (Proc.devRef .tc main_arg0) = V (Proc.devRef .tc main_arg0) := by
  unfold hashOps
  rw [after_app, after_app, after_app, hash3_keep, (hash2_keep _).2.1, (hash1_keep _).2.2.1, (hash0_keep _).2.2]

/-! ## After the hash -/

/-- A float constant at every place. -/
def fc (b : BitVec 32) : FVec F S128x100000 .f32 := broadcastInDim S128x100000 ![] bcast_S_S128x100000 (constant S_ .f32 b)

/-- The noise from the random words. -/
def noiseV (w : IVec S128x100000 32) : FVec F S128x100000 .f32 :=
  Host.negf (Host.log (Host.negf (Host.log (maximumf (fc 0x00800000#32) (addf (mulf (subf (bitcastToFloat .f32 (ori (Host.shrui w (bc 9)) (bc 1065353216#32))) (fc 0x3F800000#32)) (fc 0x3F800000#32)) (fc 0x00800000#32))))))

/-- The logits with the noise added. -/
def noisyV (x : FVec F S128x100000 .f32) (w : IVec S128x100000 32) : FVec F S128x100000 .f32 :=
  Host.divf (addf x (noiseV w)) (fc 0x3F800000#32)

theorem post_v43 (x : FVec F S128x100000 .f32) (p q : IVec S128x100000 32) (hx : V (Proc.devRef .tc main_arg0) = x)
    (hp : V (Proc.devRef .tc main_v22_0) = p) (hq : V (Proc.devRef .tc main_v22_1) = q) :
    after around.1.2 V (Proc.devRef .tc main_v43) = noisyV x (xori p q) := by
  subst hx hp hq
  delta around
  after_reads_simp
  rfl

/-- The rows' maxima. -/
def maxV (z : FVec F S128x100000 .f32) : FVec F S128 .f32 :=
  Host.reduce FloatOps.maximumf z (constant S_ .f32 0xFF800000#32) reducesTo_S128x100000_S128_d1 h_S_

theorem post_v44 (x : FVec F S128x100000 .f32) (p q : IVec S128x100000 32) (hx : V (Proc.devRef .tc main_arg0) = x)
    (hp : V (Proc.devRef .tc main_v22_0) = p) (hq : V (Proc.devRef .tc main_v22_1) = q) :
    after around.1.2 V (Proc.devRef .tc main_v44) = maxV (noisyV x (xori p q)) := by
  subst hx hp hq
  delta around
  after_reads_simp
  rfl

theorem post_cst : after around.1.2 V (Proc.devRef .tc main_cst_12) = (constant S_ .f32 0xFF800000#32 : FVec F S_ .f32) := by
  delta around
  after_reads_simp

theorem post_arg0 : after around.1.2 V (Proc.devRef .tc main_arg0) = V (Proc.devRef .tc main_arg0) := by
  delta around
  after_reads_simp

theorem close_arg0 : after close.1 V (Proc.devRef .tc main_arg0) = V (Proc.devRef .tc main_arg0) := by
  delta close
  after_reads_simp

/-- A row's number at every place of the row. -/
def rowV (m : FVec F S128 .f32) : FVec F S128x100000 .f32 :=
  broadcastInDim S128x100000 ![0, 1] bcast_S128x1_S128x100000_0_1 (broadcastInDim S128x1 ![0] bcast_S128_S128x1_0 m)

/-- The exponentials, each row's maximum taken off. -/
def expV (z : FVec F S128x100000 .f32) (m : FVec F S128 .f32) : FVec F S128x100000 .f32 :=
  Host.exp (subf z (rowV (maximumf (broadcastInDim S128 ![] bcast_S_S128 (constant S_ .f32 0xFF800000#32)) m)))

/-- The exponentials over their row's sum. -/
def softV (e : FVec F S128x100000 .f32) : FVec F S128x100000 .f32 :=
  Host.divf e (rowV (Host.reduceAdd e (constant S_ .f32 0x00000000#32) reducesTo_S128x100000_S128_d1 h_S_))

theorem close_v54 (z : FVec F S128x100000 .f32) (m : FVec F S128 .f32) (hz : V (Proc.devRef .tc main_v43) = z)
    (hm : V (Proc.devRef .tc main_v44) = m) (hc : V (Proc.devRef .tc main_cst_12) = (constant S_ .f32 0xFF800000#32 : FVec F S_ .f32)) :
    after close.1 V (Proc.devRef .tc main_v54) = softV (expV z m) := by
  subst hz hm
  delta close
  after_reads_simp
  rw [hc]
  rfl

/-- The random words of all places. -/
def words : IVec S128x100000 32 := fun i => word (counter i + 42)

/-- What the reference computes of the logits. -/
def refOut (x : FVec F S128x100000 .f32) : FVec F S128x100000 .f32 :=
  softV (expV (noisyV x words) (maxV (noisyV x words)))

/-- The reference's operations, all of them. -/
abbrev allOps : Ops F := (around.1.1 ++ (hashOps ++ around.1.2)) ++ close.1

theorem all_v54 : after allOps V (Proc.devRef .tc main_v54) = refOut (V (Proc.devRef .tc main_arg0)) := by
  unfold allOps
  rw [after_app, after_app, after_app]
  obtain ⟨T, h0, h1, hw⟩ := hash_word (after around.1.1 V) _ (before_v8 V) (before_v10 V) (before_v21 V) (before_v20 V)
  have hx := (hash_arg0 (after around.1.1 V)).trans (before_arg0 V)
  have hW : xori T.1 T.2 = words := funext hw
  have e43 := post_v43 _ _ _ _ hx h0 h1
  have e44 := post_v44 _ _ _ _ hx h0 h1
  rw [hW] at e43 e44
  exact close_v54 _ _ _ e43 e44 (post_cst _)

theorem all_arg0 : after allOps V (Proc.devRef .tc main_arg0) = V (Proc.devRef .tc main_arg0) := by
  unfold allOps
  rw [after_app, after_app, after_app, close_arg0, post_arg0, hash_arg0, before_arg0]

end Cert.ReferenceIdeal.Gen

end
-- ==== Proof.RefAt.lean ====
module

public import proofs.«01_k».proof.Proof.RefVal

@[expose] public section

set_option maxRecDepth 16384

noncomputable section

namespace Cert.ReferenceIdeal.Gen

open Idealize.ShloMosaic Idealize.ShloMosaic.TcCoe
open Cert.Soft

/-! ## The reference's result at a place, over the extended reals -/

/-- The noise made of a random word. -/
def noise (w : BitVec 32) : EReal :=
  -Ideal.log (-Ideal.log (max (Ideal.ofBits .f32 0x00800000#32) (Ideal.ofBits .f32 (w >>> 9 ||| 1065353216#32) - 1 + Ideal.ofBits .f32 0x00800000#32)))

/-- Minus infinity, as the reference spells it. -/
def lowest : EReal := Ideal.ofBits .f32 0xFF800000#32

theorem noiseV_at (w : IVec S128x100000 32) (i : S128x100000.Idx) : noiseV (F := Ideal) w i = noise (w i) := by
  unfold noiseV noise fc
  pointwise
  have h9 : bc 9 i = 9#32 := rfl
  have h1 : bc 1065353216#32 i = 1065353216#32 := rfl
  rw [h9, h1]
  unfold IntOp.shrui
  rw [if_pos (by decide)]
  rfl

theorem noisyV_at (x : FVec Ideal S128x100000 .f32) (w : IVec S128x100000 32) (i : S128x100000.Idx) :
    noisyV (F := Ideal) x w i = Ideal.div (x i + noise (w i)) 1 := by
  rw [← noiseV_at]
  unfold noisyV fc
  pointwise

theorem maxV_at (z : FVec Ideal S128x100000 .f32) (l : Fin 128) :
    maxV (F := Ideal) z (ix1 l) = (Finset.univ : Finset (Fin 100000)).fold max lowest (fun n => z (ix2 l n)) := by
  unfold maxV lowest
  pointwise
  try rfl

theorem rowV_at (m : FVec Ideal S128 .f32) (l : Fin 128) (n : Fin 100000) : rowV (F := Ideal) m (ix2 l n) = m (ix1 l) := by
  unfold rowV
  pointwise

theorem expV_at (z : FVec Ideal S128x100000 .f32) (m : FVec Ideal S128 .f32) (l : Fin 128) (n : Fin 100000) :
    expV (F := Ideal) z m (ix2 l n) = Ideal.exp (z (ix2 l n) - max lowest (m (ix1 l))) := by
  unfold expV
  show Ideal.exp (z (ix2 l n) - rowV (F := Ideal) _ (ix2 l n)) = _
  rw [rowV_at]
  unfold lowest
  pointwise

theorem softV_at (e : FVec Ideal S128x100000 .f32) (l : Fin 128) (n : Fin 100000) :
    softV (F := Ideal) e (ix2 l n) = Ideal.div (e (ix2 l n)) (∑ k : Fin 100000, e (ix2 l k)) := by
  unfold softV
  have hd : ∀ r : FVec Ideal S128x100000 .f32, Host.divf e r (ix2 l n) = Ideal.div (e (ix2 l n)) (r (ix2 l n)) := fun _ => rfl
  rw [hd, rowV_at]
  pointwise
  try rfl

/-- The noisy logit of a place. -/
def noisy (x : FVec Ideal S128x100000 .f32) (l : Fin 128) (n : Fin 100000) : EReal :=
  Ideal.div (x (ix2 l n) + noise (word (BitVec.ofNat 32 (100000 * l.val + n.val) + 42))) 1

/-- The largest of a row. -/
def top (x : FVec Ideal S128x100000 .f32) (l : Fin 128) : EReal :=
  max lowest ((Finset.univ : Finset (Fin 100000)).fold max lowest (noisy x l))

/-- The reference's result at a place: the exponential of the noisy logit less the row's largest, over the row's sum of
    those. -/
theorem refOut_at (x : FVec Ideal S128x100000 .f32) (l : Fin 128) (n : Fin 100000) :
    refOut (F := Ideal) x (ix2 l n) = Ideal.div (Ideal.exp (noisy x l n - top x l)) (∑ k : Fin 100000, Ideal.exp (noisy x l k - top x l)) := by
  have hz : ∀ k, noisyV (F := Ideal) x words (ix2 l k) = noisy x l k := fun k => by rw [noisyV_at]; rfl
  have he : ∀ k, expV (F := Ideal) (noisyV x words) (maxV (noisyV x words)) (ix2 l k) = Ideal.exp (noisy x l k - top x l) := by
    intro k
    rw [expV_at, maxV_at, hz]
    simp only [hz]
    rfl
  unfold refOut
  rw [softV_at, he]
  simp only [he]

end Cert.ReferenceIdeal.Gen

end
-- ==== Proof.KernAt.lean ====
module

public import proofs.«01_k».proof.Proof.Hash
public import Idealize.ShloMosaic.Lib.Pointwise

@[expose] public section

set_option maxRecDepth 16384

noncomputable section

namespace Cert.KernelIdeal.Gen

open Idealize.ShloMosaic Idealize.ShloMosaic.TcCoe
open Cert.Soft

/-! ## The kernel's payloads at a place, over the extended reals -/

/-- The scale by which natural logarithms become logarithms to base two. -/
def lam : EReal := Named.named (F := Ideal) (φ := .f32) κ "log2e" 0x3FB8AA3B#32

/-- The base-two logarithm of the uniform number made of a random word. -/
def lgw (w : BitVec 32) : EReal :=
  Ideal.log ((((w >>> 9).toInt : ℝ) : EReal) * Ideal.ofBits .f32 0x34000000#32 + Ideal.ofBits .f32 0x00800000#32) * lam

/-- The unnormalised weight made of the logarithm `q` and the logit `x`. -/
def wt (q x : EReal) : EReal :=
  Ideal.exp2 (x * lam - Ideal.log (0 - q) * lam - Ideal.ofBits .f32 0x42086237#32)

theorem lgV_at (w : IVec S80x128 32) (i : S80x128.Idx) : k0_pay4 (F := Ideal) w i = lgw (w i) := by
  unfold k0_pay4 lgw lam
  pointwise
  have h9 : broadcast S80x128 9#32 i = 9#32 := rfl
  try rw [h9]
  try unfold IntOp.shrui
  try rw [if_pos (by decide)]
  try rfl

/-- The first chunk's stage is the loop's. -/
theorem first_lg {F : FTy → Type} [FloatOps F] [Named F] (a b : IVec S80x128 32) :
    k0_pay96 (F := F) a b 5#32 = k0_pay4 (xori a (addi b (broadcast S80x128 5#32))) := rfl

/-- The last chunk's stage is the loop's. -/
theorem last_wt {F : FTy → Type} [FloatOps F] [Named F] (q x : FVec F S80x128 .f32) :
    k0_pay148 (F := F) q x = k0_pay145 q x := rfl

theorem wtV_at (q x : FVec Ideal S80x128 .f32) (i : S80x128.Idx) : k0_pay145 (F := Ideal) q x i = wt (q i) (x i) := by
  unfold k0_pay145 wt lam
  pointwise
  rfl

theorem put146_at (q x : FVec Ideal S80x128 .f32) (i : S80x128.Idx) : k0_pay146 (F := Ideal) q x i = wt (q i) (x i) := by
  rw [← wtV_at]
  unfold k0_pay146
  pointwise

theorem put149_at (q x : FVec Ideal S80x128 .f32) (i : S80x128.Idx) : k0_pay149 (F := Ideal) q x i = wt (q i) (x i) := by
  rw [← wtV_at, ← last_wt]
  unfold k0_pay149
  pointwise

/-- Eighty rows in ten groups of eight. -/
theorem sum_groups (f : Fin 80 → EReal) :
    ∑ s : Fin 8, ∑ g : Fin 10, f ⟨g.val * 8 + s.val, by omega⟩ = ∑ r : Fin 80, f r := by
  rw [Finset.sum_comm, ← Fintype.sum_prod_type']
  refine Fintype.sum_equiv (finProdFinEquiv (m := 10) (n := 8)) _ _ fun p => ?_
  congr 1
  apply Fin.ext
  show p.1.val * 8 + p.2.val = p.2.val + 8 * p.1.val
  omega

theorem grouped_at (e : FVec Ideal S80x128 .f32) (s : Fin 8) (l : Fin 128) :
    multiReduction (F := Ideal) .add [0] S8x128 (shapeCast S10x8x128 e shapeCasts_S80x128_S10x8x128) 0x00000000#32 reduces_S10x8x128_S8x128 (.inl rfl) rfl (ix2 s l)
      = ∑ g : Fin 10, e (ix2 ⟨g.val * 8 + s.val, by omega⟩ l) := by
  pointwise

theorem sum147 (q : FVec Ideal S80x128 .f32) (acc : FVec Ideal S8x128 .f32) (x : FVec Ideal S80x128 .f32) (l : Fin 128) :
    ∑ s : Fin 8, k0_pay147 (F := Ideal) q acc x (ix2 s l)
      = ∑ s : Fin 8, acc (ix2 s l) + ∑ r : Fin 80, wt (q (ix2 r l)) (x (ix2 r l)) := by
  have h : ∀ s : Fin 8, k0_pay147 (F := Ideal) q acc x (ix2 s l) = acc (ix2 s l) + ∑ g : Fin 10, k0_pay145 (F := Ideal) q x (ix2 ⟨g.val * 8 + s.val, by omega⟩ l) := by
    intro s
    rw [← grouped_at]
    rfl
  simp only [h, Finset.sum_add_distrib]
  rw [sum_groups (fun r => k0_pay145 (F := Ideal) q x (ix2 r l))]
  simp only [wtV_at]

theorem sum150 (q : FVec Ideal S80x128 .f32) (acc : FVec Ideal S8x128 .f32) (x : FVec Ideal S80x128 .f32) (old : FVec Ideal S8x128 .f32) (l : Fin 128) :
    ∑ s : Fin 8, k0_pay150 (F := Ideal) q acc x old (ix2 s l)
      = ∑ s : Fin 8, old (ix2 s l) + (∑ s : Fin 8, acc (ix2 s l) + ∑ r : Fin 80, wt (q (ix2 r l)) (x (ix2 r l))) := by
  have h : ∀ s : Fin 8, k0_pay150 (F := Ideal) q acc x old (ix2 s l) = old (ix2 s l) + k0_pay147 (F := Ideal) q acc x (ix2 s l) := by
    intro s
    rfl
  simp only [h, Finset.sum_add_distrib]
  rw [sum147]

/-- The zeros the sums start from. -/
theorem zeros143 (i : S8x128.Idx) : k0_pay143 (F := Ideal) i = 0 := by
  unfold k0_pay143
  pointwise

theorem zeros1 (i : S8x128.Idx) : k0_pay1 (F := Ideal) i = 0 := by
  unfold k0_pay1
  pointwise

theorem store2 {F : FTy → Type} [FloatOps F] [Named F] (v : FVec F S8x128 .f32) : k0_pay2 (F := F) v = v := by
  funext i
  unfold k0_pay2
  pointwise

/-- What is stored in the output's block: the weight times the reciprocal of its column's sum. -/
theorem scaled_at (a : FVec Ideal S8x128 .f32) (e : FVec Ideal S2000x128 .f32) (r : Fin 2000) (l : Fin 128) :
    k0_pay3 (F := Ideal) a e (ix2 r l) = e (ix2 r l) * Ideal.div 1 (∑ s : Fin 8, a (ix2 s l)) := by
  unfold k0_pay3
  pointwise

/-! ## The counters -/

theorem base_at (r : Fin 80) (l : Fin 128) : k0_pay51 (ix2 r l) = BitVec.ofNat 32 (100000 * l.val + r.val) + 42 := by
  have h : k0_pay51 (ix2 r l) = BitVec.ofNat 32 l.val * 100000#32 + BitVec.ofNat 32 r.val + 42#32 := by
    unfold k0_pay51
    pointwise
    simp only [IntOp.addi, IntOp.muli]
  rw [h]
  apply BitVec.eq_of_toNat_eq
  simp
  omega

/-- The counter of a place in a chunk starting `o` rows into the whole. -/
theorem counter_at (o : ℕ) (b : BitVec 32) (hb : b = BitVec.ofNat 32 o) (r : Fin 80) (l : Fin 128) :
    addi k0_pay51 (broadcast S80x128 b) (ix2 r l) = BitVec.ofNat 32 (100000 * l.val + (o + r.val)) + 42 := by
  have h : addi k0_pay51 (broadcast S80x128 b) (ix2 r l) = k0_pay51 (ix2 r l) + b := rfl
  rw [h, base_at, hb]
  apply BitVec.eq_of_toNat_eq
  simp
  omega

end Cert.KernelIdeal.Gen

end
-- ==== Proof.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three branches of the body -/

/-- The first branch is taken where the grid coordinate is zero. -/
abbrev atStart (i : grid0.Coords) : Prop := (Scalar.cmpi .ne (Scalar.extui (Scalar.cmpi .eq (BitVec.ofNat 32 (i 0).val) 0#32)) 0#32) = 1#1

/-- It is taken at the first point only. -/
theorem atStart_iff : ∀ t : Fin cfg0.N, atStart (grid0.coords t) ↔ t.val = 0 :=
  (fun t => by
    have ht : t.val < 75 := Nat.lt_of_lt_of_eq t.isLt N_0
    have e0 : (grid0.coords t 0).val = t.val / 1 % 75 := Pipeline.Grid.coords_val t 0 (by decide) rfl
    have e1 : t.val / 1 % 75 = t.val := by omega
    simp only [atStart, e0, e1]
    word_cmp
   : ∀ t : Fin grid0.N, atStart (grid0.coords t) ↔ t.val = 0)

/-- The second branch, the one that computes exponentials, is taken at the first 25 points. -/
theorem filling_iff : ∀ t : Fin cfg0.N, k0_cond2 (grid0.coords t) = 1#1 ↔ t.val < 25 :=
  (by decide +kernel : ∀ t : Fin grid0.N, k0_cond2 (grid0.coords t) = 1#1 ↔ t.val < 25)

/-- The third branch, the one that scales, is taken at the last 50 points. -/
theorem scaling_iff : ∀ t : Fin cfg0.N, k0_cond3 (grid0.coords t) = 1#1 ↔ 25 ≤ t.val :=
  (by decide +kernel : ∀ t : Fin grid0.N, k0_cond3 (grid0.coords t) = 1#1 ↔ 25 ≤ t.val)

/-! ## The buffers the body is run on -/

/-- The staging buffer of the input window at a point, and that it is a whole buffer. -/
abbrev inMem (t : Fin cfg0.N) : Memref sig .tc .vmem S4000x128 .f32 := win0_0.stage (cfg0.slots t 0)
abbrev inMem_whole (t : Fin cfg0.N) : (inMem t).IsWhole := hstage0_0 ((cfg0.slots t 0).cast nbuf0_0)
/-- The staging buffer of the output window at a point, and that it is a whole buffer. -/
abbrev outMem (t : Fin cfg0.N) : Memref sig .tc .vmem S2000x128 .f32 := win0_1.stage (cfg0.slots t 1)
abbrev outMem_whole (t : Fin cfg0.N) : (outMem t).IsWhole := hstage0_1 ((cfg0.slots t 1).cast nbuf0_1)
/-- The two scratch buffers: the running sums, and the table of exponentials. -/
abbrev sumMem : Memref sig .tc .vmem S8x128 .f32 := Memref.whole cc0_scratch0
abbrev expMem : Memref sig .tc .vmem S100000x128 .f32 := Memref.whole cc0_scratch1

/-- The invariant the launch hands over, spelled with the two scratch buffers. -/
theorem scratch_eq (c : Dev nD) :
    (Pipeline.ΦA spec0 c : sProp 𝕄)
      = iprop(iprop((∃ d, owns (c : Thread nD τ) sumMem fullShare d) ∗ (∃ d, owns (c : Thread nD τ) expMem fullShare d)) ∗ (∃ r, prngReg c r)) := by
  unfold Pipeline.ΦA; rw [scopedRest0_eq]; simp only [sumMem, expMem, owns_whole]; try rfl

/-! ## The body run in each of its three cases -/

set_option maxHeartbeats 1000000 in
/-- The body at the first point: from the input block and the table of exponentials, the pieces it stores in the
    running sums and in the table, with the proof that it runs to them. -/
def runFirst (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : atStart i) (hc1 : k0_cond2 i = 1#1) (hc2 : ¬k0_cond3 i = 1#1)
    (x0 : Vec F S4000x128 .f32) (xs1 : Vec F S100000x128 .f32) :
    { L : List (View.Piece (Elt F) S8x128 .f32) × List (View.Piece (Elt F) S100000x128 .f32) //
      ∀ (E : Set ℕ) (K : PUnit → sProp 𝕄),
        iprop(owns (c : Thread nD τ) arg1 fullShare x0 ∗ (∃ d, owns (c : Thread nD τ) arg3 fullShare d) ∗ owns (c : Thread nD τ) arg4 fullShare xs1
            ∗ (iprop(owns (c : Thread nD τ) arg1 fullShare x0 ∗ (∃ f, arg3.view.loc (c : Thread nD τ) ↦[arg3.view.set]{fullShare} arg3.view.writes (Elt F) f L.1)
                ∗ (arg4.view.loc (c : Thread nD τ) ↦[arg4.view.set]{fullShare} arg4.view.writes (Elt F) (harg4.unread xs1) L.2)) -∗ K ⟨⟩))
          ⊢ wp frame (wpE (defs₀ (F := F)) Variants.none c none) E (cc0__body i arg1 harg1 arg2 harg2 arg3 harg3 arg4 harg4) K } := by
  refine ⟨⟨?_, ?_⟩, fun E K => ?run⟩
  case run =>
    simp only [cc0__body_eq_skeleton]; unfold cc0__body_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%ds0, %fs0, -, HS0⟩, ⟨%fs1, %hfs1, HS1⟩, Hk⟩
    obtain rfl := harg1.eq_unread hf0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [HS0]; · iexists _; iexact HS0
    iexact HS1

set_option maxHeartbeats 1000000 in
/-- The body at a later point of the first 25: the same, the running sums at what the point before left. -/
def runFill (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : k0_cond2 i = 1#1) (hc2 : ¬k0_cond3 i = 1#1)
    (x0 : Vec F S4000x128 .f32) (xs0 : Vec F S8x128 .f32) (xs1 : Vec F S100000x128 .f32) :
    { L : List (View.Piece (Elt F) S8x128 .f32) × List (View.Piece (Elt F) S100000x128 .f32) //
      ∀ (E : Set ℕ) (K : PUnit → sProp 𝕄),
        iprop(owns (c : Thread nD τ) arg1 fullShare x0 ∗ owns (c : Thread nD τ) arg3 fullShare xs0 ∗ owns (c : Thread nD τ) arg4 fullShare xs1
            ∗ (iprop(owns (c : Thread nD τ) arg1 fullShare x0 ∗ (∃ f, arg3.view.loc (c : Thread nD τ) ↦[arg3.view.set]{fullShare} arg3.view.writes (Elt F) f L.1)
                ∗ (arg4.view.loc (c : Thread nD τ) ↦[arg4.view.set]{fullShare} arg4.view.writes (Elt F) (harg4.unread xs1) L.2)) -∗ K ⟨⟩))
          ⊢ wp frame (wpE (defs₀ (F := F)) Variants.none c none) E (cc0__body i arg1 harg1 arg2 harg2 arg3 harg3 arg4 harg4) K } := by
  refine ⟨⟨?_, ?_⟩, fun E K => ?run⟩
  case run =>
    simp only [cc0__body_eq_skeleton]; unfold cc0__body_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs1; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [HS0]; · iexists _; iexact HS0
    iexact HS1

set_option maxHeartbeats 1000000 in
/-- The body at one of the last 50 points: the pieces it stores in the output's staging buffer, with the proof that it
    runs to them and leaves both scratch buffers as they were. -/
def runScale (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : ¬k0_cond2 i = 1#1) (hc2 : k0_cond3 i = 1#1)
    (x0 : Vec F S4000x128 .f32) (xs0 : Vec F S8x128 .f32) (xs1 : Vec F S100000x128 .f32) :
    { L : List (View.Piece (Elt F) S2000x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L)
                ∗ owns (c : Thread nD τ) arg3 fullShare xs0 ∗ owns (c : Thread nD τ) arg4 fullShare xs1) -∗ K ⟨⟩))
          ⊢ wp frame (wpE (defs₀ (F := F)) Variants.none c none) E (cc0__body i arg1 harg1 arg2 harg2 arg3 harg3 arg4 harg4) K } := by
  refine ⟨?_, fun E K => ?run⟩
  case run =>
    simp only [cc0__body_eq_skeleton]; unfold cc0__body_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]
    · iexists _; isplitr; · ipureintro; exact harg3.read_unread _
      iexact HS0
    iexists _; isplitr; · ipureintro; exact harg4.read_unread _
    iexact HS1

end Cert.KernelIdeal.Gen

end
-- ==== Proof.Trips.lean ====
module

public import proofs.«01_k».proof.Proof.KernAt
public import proofs.«01_k».proof.Proof.Runs
public import Idealize.ShloMosaic.Lib.WritesUnit
public import Idealize.ShloMosaic.Lib.WholeRead

@[expose] public section

set_option maxRecDepth 16384

noncomputable section

namespace Cert.KernelIdeal.Gen

open Idealize.ShloMosaic Idealize.ShloMosaic.TcCoe
open Cert.Soft

/-! ## What the counted loop carries and stores -/

section Generic

variable {F : FTy → Type} [FloatOps F] [Named F]

/-- What one trip hands to the next. -/
theorem tripR_eq (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole) (arg0 : BitVec 32) (h2 : k0_cond2 i = 1#1) (v15 : IVec S80x128 32) (v16 : BitVec 32) (X : BufTy.Contents (Elt F) arg1.view.ty) (k : Fin k0_t1_loop.trips) (acc : FVec F S80x128 .f32 × IVec S80x128 32 × FVec F S8x128 .f32) :
    tripR_k0_t1 (F := F) Variants.none c none i arg1 harg1 arg2 harg2 arg3 harg3 arg4 harg4 arg0 h2 v15 v16 X k acc
      = (k0_pay4 acc.2.1, wordV (k0_pay5 v15 v16 0#32 1#32 k),
          k0_pay147 acc.1 acc.2.2 (arg1.view.readAt (Elt F) (Rect.unit (s := S4000x128) (k0_off1 k) S80x128.size (k0_off1_inb i k h2)).toLoadRect X)) := by
  rw [← loop_word]
  delta tripR_k0_t1 trip_k0_t1
  rfl

/-- What one trip stores. -/
theorem tripL_eq (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole) (arg0 : BitVec 32) (h2 : k0_cond2 i = 1#1) (v15 : IVec S80x128 32) (v16 : BitVec 32) (X : BufTy.Contents (Elt F) arg1.view.ty) (k : Fin k0_t1_loop.trips) (acc : FVec F S80x128 .f32 × IVec S80x128 32 × FVec F S8x128 .f32) :
    tripL_k0_t1 (F := F) Variants.none c none i arg1 harg1 arg2 harg2 arg3 harg3 arg4 harg4 arg0 h2 v15 v16 X k acc
      = [⟨Rect.unit (s := S100000x128) (k0_off2 i k) S80x128.size (k0_off2_inb i k h2),
          k0_pay146 acc.1 (arg1.view.readAt (Elt F) (Rect.unit (s := S4000x128) (k0_off1 k) S80x128.size (k0_off1_inb i k h2)).toLoadRect X)⟩] := by
  delta tripL_k0_t1 trip_k0_t1
  rfl

end Generic

/-- The weight of row `n` of the table in column `l`, the logits being `T`. -/
def weight (T : ℕ → Fin 128 → EReal) (n : ℕ) (l : Fin 128) : EReal :=
  wt (lgw (word (BitVec.ofNat 32 (100000 * l.val + n) + 42))) (T n l)

/-- A chunk of the input block, eighty rows from `o`. -/
theorem chunk_at (arg1 : Memref sig .tc .vmem S4000x128 .f32) (harg1 : arg1.IsWhole) (x0 : FVec Ideal S4000x128 .f32)
    (off : Fin 2 → ℕ) (o : ℕ) (ho : off = ![o, 0]) (inb : ∀ a, off a + S80x128.size a ≤ S4000x128.size a) (r : Fin 80) (l : Fin 128) (h : o + r.val < 4000) :
    arg1.view.readAt (Elt Ideal) (Rect.unit (s := S4000x128) off S80x128.size inb).toLoadRect (harg1.unread x0) (ix2 r l)
      = x0 (ix2 ⟨o + r.val, h⟩ l) := by
  subst ho
  rw [harg1.readAt_unread]
  congr 1
  funext a
  apply Fin.ext
  match a with
  | ⟨0, _⟩ => show o + 1 * r.val = o + r.val; omega
  | ⟨1, _⟩ => show 0 + 1 * l.val = l.val; omega

/-- The reading of one more stored chunk of eighty rows. -/
theorem stored_at (arg4 : Memref sig .tc .vmem S100000x128 .f32) (f : arg4.view.ty.Contents (Elt Ideal)) (L : List (View.Piece (Elt Ideal) S100000x128 .f32))
    (off : Fin 2 → ℕ) (o : ℕ) (ho : off = ![o, 0]) (inb : ∀ a, off a + S80x128.size a ≤ S100000x128.size a) (w : FVec Ideal S80x128 .f32) (n : Fin 100000) (l : Fin 128) :
    arg4.view.read (Elt Ideal) (arg4.view.writes (Elt Ideal) f (⟨Rect.unit (s := S100000x128) off S80x128.size inb, w⟩ :: L)) (ix2 n l)
      = if h : o ≤ n.val ∧ n.val < o + 80 then w (ix2 ⟨n.val - o, by omega⟩ l)
        else arg4.view.read (Elt Ideal) (arg4.view.writes (Elt Ideal) f L) (ix2 n l) := by
  by_cases h : o ≤ n.val ∧ n.val < o + 80
  · rw [dif_pos h]
    refine View.read_writes_cons_rows_of_mem arg4.view f inb w L (ix2 n l) (ix2 ⟨n.val - o, by omega⟩ l) ho ?_ rfl
    show n.val = o + (n.val - o)
    omega
  · rw [dif_neg h]
    refine View.read_writes_cons_rows_of_not_mem arg4.view f inb w L (ix2 n l) ho (W := 80) rfl ?_
    show n.val < o ∨ o + 80 ≤ n.val
    omega

/-- The program's sixteen-bit-wide reckoning of a chunk's first row. -/
theorem row_word (p q : ℕ) : Scalar.muli (BitVec.ofNat 32 p) 4000#32 + BitVec.ofNat 32 q = BitVec.ofNat 32 (4000 * p + q) := by
  show BitVec.ofNat 32 p * 4000#32 + BitVec.ofNat 32 q = _
  apply BitVec.eq_of_toNat_eq
  simp
  omega

/-- The counters of the first chunk. -/
theorem counter52 (p : ℕ) (r : Fin 80) (l : Fin 128) :
    k0_pay52 (BitVec.ofNat 32 p) (ix2 r l) = BitVec.ofNat 32 (100000 * l.val + (4000 * p + r.val)) + 42 :=
  counter_at (4000 * p) _ (row_word p 0) r l

/-- The counters of the second chunk. -/
theorem counter97 (p : ℕ) (r : Fin 80) (l : Fin 128) :
    k0_pay97 k0_pay51 (Scalar.muli (BitVec.ofNat 32 p) 4000#32) (ix2 r l) = BitVec.ofNat 32 (100000 * l.val + (4000 * p + 80 + r.val)) + 42 :=
  counter_at (4000 * p + 80) _ (row_word p 80) r l

/-- The counters two chunks ahead of a trip's. -/
theorem counter5 (p : ℕ) (k : Fin k0_t1_loop.trips) (r : Fin 80) (l : Fin 128) :
    k0_pay5 k0_pay51 (Scalar.muli (BitVec.ofNat 32 p) 4000#32) 0#32 1#32 k (ix2 r l)
      = BitVec.ofNat 32 (100000 * l.val + (4000 * p + 80 * (k.val + 2) + r.val)) + 42 := by
  refine counter_at (4000 * p + 80 * (k.val + 2)) _ ?_ r l
  have hk : Scalar.muli (Scalar.addi (Scf.iv 0#32 1#32 k) 2#32) 80#32 = BitVec.ofNat 32 (80 * (k.val + 2)) := by
    have h : Scf.iv 0#32 1#32 k = BitVec.ofNat 32 k.val := by
      unfold Scf.iv
      apply BitVec.eq_of_toNat_eq
      simp
    rw [h]
    show (BitVec.ofNat 32 k.val + 2#32) * 80#32 = _
    apply BitVec.eq_of_toNat_eq
    simp
    omega
  rw [hk]
  exact row_word p _

end Cert.KernelIdeal.Gen

end
-- ==== Proof.Math.lean ====
module

public import proofs.«01_k».proof.Proof.RefAt
public import proofs.«01_k».proof.Proof.Trips

@[expose] public section

set_option maxRecDepth 16384

noncomputable section

namespace Cert.Soft

open Idealize.ShloMosaic
open Cert.KernelIdeal.Gen (lam lgw wt)
open Cert.ReferenceIdeal.Gen (noise lowest)

/-! ## The constants -/

theorem tiny_eq : Ideal.ofBits .f32 0x00800000#32 = (((2 : ℝ) ^ (-126 : ℤ) : ℝ) : EReal) := by
  simp [Ideal.ofBits, Ideal.ieee, -EReal.coe_mul]; norm_num

theorem step_eq : Ideal.ofBits .f32 0x34000000#32 = (((2 : ℝ) ^ (-23 : ℤ) : ℝ) : EReal) := by
  simp [Ideal.ofBits, Ideal.ieee, -EReal.coe_mul]; norm_num

theorem lowest_eq : lowest = ⊥ := by
  unfold lowest
  simp [Ideal.ofBits, Ideal.ieee]

theorem highest_eq : Ideal.ofBits .f32 0x7F800000#32 = ⊤ := by
  simp [Ideal.ofBits, Ideal.ieee]

/-- The kernel's fold constant is some real number. -/
def fold : ℝ := (Ideal.ofBits .f32 0x42086237#32).toReal

theorem fold_eq : Ideal.ofBits .f32 0x42086237#32 = (fold : EReal) := by
  unfold fold
  have h : ∃ r : ℝ, Ideal.ofBits .f32 0x42086237#32 = (r : EReal) := by
    simp [Ideal.ofBits, Ideal.ieee, -EReal.coe_mul]
  obtain ⟨r, hr⟩ := h
  rw [hr, EReal.toReal_coe]

theorem lam_eq : lam = (((Real.log 2)⁻¹ : ℝ) : EReal) :=
  IdealRules.named_const.ideal_named_scalar _ _ _ _ rfl

/-! ## The uniform number of a random word -/

/-- The number in `(0, 1)` both programs make of a random word. -/
def unif (w : BitVec 32) : ℝ := ((w >>> 9).toNat : ℝ) * (2 : ℝ) ^ (-23 : ℤ) + (2 : ℝ) ^ (-126 : ℤ)

theorem high_lt (w : BitVec 32) : (w >>> 9).toNat < 8388608 := by
  rw [BitVec.toNat_ushiftRight, Nat.shiftRight_eq_div_pow]
  have := w.isLt
  omega

theorem unif_pos (w : BitVec 32) : 0 < unif w := by
  unfold unif; positivity

theorem unif_lt (w : BitVec 32) : unif w < 1 := by
  have h : ((w >>> 9).toNat : ℝ) ≤ 8388607 := by exact_mod_cast Nat.le_of_lt_succ (high_lt w)
  have : unif w ≤ 8388607 * (2 : ℝ) ^ (-23 : ℤ) + (2 : ℝ) ^ (-126 : ℤ) := by
    unfold unif; gcongr
  refine lt_of_le_of_lt this ?_
  norm_num

theorem log_unif (w : BitVec 32) : Real.log (unif w) < 0 := Real.log_neg (unif_pos w) (unif_lt w)

/-- The Gumbel noise of a random word. -/
def gum (w : BitVec 32) : ℝ := -Real.log (-Real.log (unif w))

theorem log_pos_coe {r : ℝ} (h : 0 < r) : Ideal.log (r : EReal) = (Real.log r : EReal) := by
  rw [Ideal.log_coe, if_neg (not_le.mpr h)]

theorem lgw_eq (w : BitVec 32) : lgw w = ((Real.log (unif w) * (Real.log 2)⁻¹ : ℝ) : EReal) := by
  have ht : (w >>> 9).toInt = ((w >>> 9).toNat : ℤ) := BitVec.toInt_eq_toNat_of_lt (by have := high_lt w; omega)
  unfold lgw
  rw [lam_eq, step_eq, tiny_eq, ht, ← EReal.coe_mul, ← EReal.coe_add,
    show (((w >>> 9).toNat : ℤ) : ℝ) * (2 : ℝ) ^ (-23 : ℤ) + (2 : ℝ) ^ (-126 : ℤ) = unif w by unfold unif; push_cast; rfl,
    log_pos_coe (unif_pos w), ← EReal.coe_mul]

theorem or_one (w : BitVec 32) : (w >>> 9 ||| 1065353216#32).toNat = 127 * 8388608 + (w >>> 9).toNat := by
  rw [BitVec.toNat_or, Nat.or_comm]
  exact (Nat.two_pow_add_eq_or_of_lt (i := 23) (high_lt w) 127).symm

/-- The word with the exponent of one and the random bits below reads one plus the fraction. -/
theorem mantissa (w : BitVec 32) : Ideal.ofBits .f32 (w >>> 9 ||| 1065353216#32) = ((1 + ((w >>> 9).toNat : ℝ) * (2 : ℝ) ^ (-23 : ℤ) : ℝ) : EReal) := by
  have h := high_lt w
  have ho := or_one w
  have h1 : ((w >>> 9 ||| 1065353216#32).extractLsb' (8 + 23) 1 == 1#1) = false := by
    rw [beq_eq_false_iff_ne]
    intro hc
    have hc := congrArg BitVec.toNat hc
    rw [BitVec.extractLsb'_toNat, ho, Nat.shiftRight_eq_div_pow, BitVec.toNat_ofNat] at hc
    omega
  have h2 : ((w >>> 9 ||| 1065353216#32).extractLsb' 23 8).toNat = 127 := by
    rw [BitVec.extractLsb'_toNat, ho, Nat.shiftRight_eq_div_pow]
    omega
  have h3 : ((w >>> 9 ||| 1065353216#32).extractLsb' 0 23).toNat = (w >>> 9).toNat := by
    rw [BitVec.extractLsb'_toNat, ho, Nat.shiftRight_eq_div_pow]
    omega
  show Ideal.ieee 8 23 (w >>> 9 ||| 1065353216#32) = _
  simp only [Ideal.ieee]
  rw [h1, h2, h3]
  norm_num [-EReal.coe_mul, -EReal.coe_add]
  ring

theorem noise_eq (w : BitVec 32) : noise w = (gum w : EReal) := by
  have hl : 0 < -Real.log (unif w) := by have := log_unif w; linarith
  have hm : (2 : ℝ) ^ (-126 : ℤ) ≤ unif w := by
    unfold unif
    have h0 := mul_nonneg (Nat.cast_nonneg (α := ℝ) (w >>> 9).toNat) (zpow_nonneg (show (0 : ℝ) ≤ 2 by norm_num) (-23 : ℤ))
    linarith
  unfold noise gum
  rw [mantissa, tiny_eq, ← EReal.coe_one, ← EReal.coe_sub, ← EReal.coe_add,
    show (1 + ((w >>> 9).toNat : ℝ) * (2 : ℝ) ^ (-23 : ℤ) - 1 + (2 : ℝ) ^ (-126 : ℤ)) = unif w by unfold unif; ring,
    max_eq_right (EReal.coe_le_coe_iff.mpr hm), log_pos_coe (unif_pos w), ← EReal.coe_neg, log_pos_coe hl, ← EReal.coe_neg]

/-! ## The weights -/

/-- The real weight of a logit below infinity with noise `g`: zero at minus infinity. -/
def ew (x : EReal) (g : ℝ) : ℝ := if x = ⊥ then 0 else Real.exp (x.toReal + g)

theorem ew_nonneg (x : EReal) (g : ℝ) : 0 ≤ ew x g := by
  unfold ew; split_ifs
  · exact le_refl _
  · exact (Real.exp_pos _).le

/-- The factor by which the kernel's weights differ from `exp (x + g)`. -/
def factor : ℝ := Real.exp (Real.log (Real.log 2) - fold * Real.log 2)

theorem factor_pos : 0 < factor := Real.exp_pos _

theorem log_two_pos : 0 < Real.log 2 := Real.log_pos (by norm_num)

theorem weight_eq (w : BitVec 32) (x : EReal) (hx : x ≠ ⊤) : wt (lgw w) x = ((factor * ew x (gum w) : ℝ) : EReal) := by
  have hl : 0 < -Real.log (unif w) := by have := log_unif w; linarith
  have h2 := log_two_pos
  have hq : 0 < -(Real.log (unif w) * (Real.log 2)⁻¹) := by
    rw [← neg_mul]; positivity
  unfold wt
  rw [lgw_eq, zero_sub, ← EReal.coe_neg, log_pos_coe hq, lam_eq, fold_eq, ← EReal.coe_mul]
  induction x with
  | top => exact absurd rfl hx
  | bot =>
    rw [EReal.bot_mul_coe_of_pos (by positivity)]
    simp [ew, sub_eq_add_neg]
  | coe r =>
    rw [← EReal.coe_mul, ← EReal.coe_sub, ← EReal.coe_sub, Ideal.exp2_coe]
    congr 1
    unfold ew factor gum
    rw [if_neg (EReal.coe_ne_bot r), EReal.toReal_coe, ← Real.exp_add]
    show (2 : ℝ) ^ (_ : ℝ) = _
    rw [Real.rpow_def_of_pos (by norm_num), ← neg_mul, Real.log_mul hl.ne' (inv_ne_zero h2.ne'), Real.log_inv]
    congr 1
    field_simp
    ring

theorem exp_eq (x : EReal) (hx : x ≠ ⊤) (g t : ℝ) : Ideal.exp (x + (g : EReal) - (t : EReal)) = ((ew x g * Real.exp (-t) : ℝ) : EReal) := by
  induction x with
  | top => exact absurd rfl hx
  | bot => simp [ew, sub_eq_add_neg]
  | coe r =>
    rw [← EReal.coe_add, ← EReal.coe_sub, Ideal.exp_coe]
    congr 1
    unfold ew
    rw [if_neg (EReal.coe_ne_bot r), EReal.toReal_coe, ← Real.exp_add, sub_eq_add_neg]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two quotients: a common positive factor, and a common shift of the exponents, leave the softmax as it is. -/
theorem quotient (e S K E : ℝ) (hS : 0 < S) (hK : 0 < K) (hE : 0 < E) :
    ((K * e : ℝ) : EReal) * Ideal.div 1 ((K * S : ℝ) : EReal) = Ideal.div ((e * E : ℝ) : EReal) ((S * E : ℝ) : EReal) := by
  have h1 : K * S ≠ 0 := (mul_pos hK hS).ne'
  have h2 : S * E ≠ 0 := (mul_pos hS hE).ne'
  rw [Ideal.div_coe h1, Ideal.div_coe h2, one_mul, ← EReal.coe_mul, ← EReal.coe_mul]
  congr 1
  field_simp

end Cert.Soft

end
-- ==== Proof.Pre.lean ====
module

public import proofs.«01_k».proof.Defs
public import proofs.«01_k».proof.Proof.Math
public import Idealize.ShloMosaic.Lib.Pointwise

@[expose] public section

set_option maxRecDepth 16384

noncomputable section

namespace Cert.Pre_rows_have_a_maximum

open Idealize.ShloMosaic
open Cert.Soft
open Cert.ReferenceIdeal.Gen (lowest)

/-- The shape relations the precondition states. -/
theorem facts : Facts where
  reducesTo_S128x100000_S128_d1 := by decide
  h_S_ := by decide
  bcast_S_S128 := by decide
  reducesTo_S128_S_d0 := by decide

/-- The largest logit of each row. -/
def rowMax [Facts] (x : FVec Ideal S128x100000 .f32) : FVec Ideal S128 .f32 :=
  Host.reduce FloatOps.maximumf x (constant S_ .f32 0xFF800000#32) Facts.reducesTo_S128x100000_S128_d1 Facts.h_S_

theorem rowMax_at [Facts] (x : FVec Ideal S128x100000 .f32) (l : Fin 128) :
    rowMax x (ix1 l) = (Finset.univ : Finset (Fin 100000)).fold max lowest (fun n => x (ix2 l n)) := by
  unfold rowMax lowest
  pointwise
  try rfl

/-- Which entries are below infinity in size. -/
def bounded [Facts] (r : FVec Ideal S128 .f32) : IVec S128 1 :=
  cmpf .olt (Host.absf r) (broadcastInDim S128 ![] Facts.bcast_S_S128 (constant (F := Ideal) S_ .f32 0x7F800000#32))

theorem fn_eq [Facts] (x : FVec Ideal S128x100000 .f32) :
    fn (F := Ideal) x = Host.reduce IntOp.andi (bounded (rowMax x)) (constantI S_ 1 1#1) Facts.reducesTo_S128_S_d0 Facts.h_S_ := by
  unfold fn bounded rowMax
  rfl

theorem bit_of {p : Prop} [Decidable p] (h : BitVec.ofBool (decide p) = 1#1) : p := by
  by_contra hn
  rw [decide_eq_false hn] at h
  exact absurd h (by decide)

theorem bounded_at [Facts] (r : FVec Ideal S128 .f32) (l : Fin 128) (h : bounded r (ix1 l) = 1#1) :
    max (r (ix1 l) : EReal) (-r (ix1 l)) < ⊤ := by
  unfold bounded at h
  pointwise at h
  have h := bit_of h
  rwa [highest_eq] at h

/-- A conjunction of bits that is one has every bit one. -/
theorem fold_and {ι : Type*} (s : Finset ι) (f : ι → BitVec 1) (h : s.fold IntOp.andi 1#1 f = 1#1) : ∀ i ∈ s, f i = 1#1 := by
  classical
  have key : ∀ a b : BitVec 1, IntOp.andi a b = 1#1 → a = 1#1 ∧ b = 1#1 := by decide
  induction s using Finset.induction_on with
  | empty => intro i hi; exact absurd hi (Finset.notMem_empty i)
  | insert a s ha ih =>
    rw [Finset.fold_insert ha] at h
    obtain ⟨h1, h2⟩ := key _ _ h
    intro i hi
    rcases Finset.mem_insert.mp hi with rfl | hi
    · exact h1
    · exact ih h2 i hi

theorem all_ones [Facts] (b : IVec S128 1)
    (h : Host.reduce IntOp.andi b (constantI S_ 1 1#1) Facts.reducesTo_S128_S_d0 Facts.h_S_ ix0 = 1#1) (l : Fin 128) : b (ix1 l) = 1#1 := by
  pointwise at h
  exact fold_and _ _ h l (Finset.mem_univ l)

theorem all_bounded [Facts] (x : FVec Ideal S128x100000 .f32) (h : fn (F := Ideal) x = fun _ => 1#1) (l : Fin 128) :
    bounded (rowMax x) (ix1 l) = 1#1 := by
  rw [fn_eq] at h
  exact all_ones _ (congrFun h ix0) l

/-- Under the precondition no logit is plus infinity, -/
theorem no_top [Facts] (x : FVec Ideal S128x100000 .f32) (h : fn (F := Ideal) x = fun _ => 1#1) (l : Fin 128) (n : Fin 100000) :
    (x (ix2 l n) : EReal) ≠ ⊤ := by
  have hb := bounded_at (rowMax x) l (all_bounded x h l)
  rw [rowMax_at] at hb
  have h1 := lt_of_le_of_lt (le_max_left _ _) hb
  exact ((Finset.fold_max_lt _).mp h1).2 n (Finset.mem_univ n) |>.ne

/-- and every row has a logit above minus infinity. -/
theorem some_real [Facts] (x : FVec Ideal S128x100000 .f32) (h : fn (F := Ideal) x = fun _ => 1#1) (l : Fin 128) :
    ∃ n : Fin 100000, (x (ix2 l n) : EReal) ≠ ⊥ := by
  have hb := bounded_at (rowMax x) l (all_bounded x h l)
  rw [rowMax_at, lowest_eq] at hb
  by_contra hn
  push Not at hn
  have h0 : (Finset.univ : Finset (Fin 100000)).fold max (⊥ : EReal) (fun n => x (ix2 l n)) ≤ ⊥ :=
    (Finset.fold_max_le _).mpr ⟨le_refl _, fun n _ => (hn n).le⟩
  rw [le_bot_iff.mp h0] at hb
  simp at hb

end Cert.Pre_rows_have_a_maximum

end
-- ==== Proof.Fill.lean ====
module

public import proofs.«01_k».proof.Proof.Trips

@[expose] public section

set_option maxRecDepth 16384

noncomputable section

namespace Cert.KernelIdeal.Gen

open Idealize.ShloMosaic Idealize.ShloMosaic.TcCoe
open Cert.Soft

section Generic

variable {F : FTy → Type} [FloatOps F] [Named F]

/-- What the loop starts from: the first chunk's logarithms, the second chunk's words, and zero sums. -/
def start (i : grid0.Coords) : FVec F S80x128 .f32 × IVec S80x128 32 × FVec F S8x128 .f32 :=
  (k0_pay4 (wordV (k0_pay52 (BitVec.ofNat 32 (i 0).val))), wordV (k0_pay97 k0_pay51 (Scalar.muli (BitVec.ofNat 32 (i 0).val) 4000#32)), k0_pay143)

/-- The loop's state before trip `k`, from that start. -/
def stateAt (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (h2 : k0_cond2 i = 1#1) (x0 : Vec F S4000x128 .f32) (k : ℕ) :=
  st_k0_t1 (F := F) Variants.none c none i arg1 harg1 arg2 harg2 arg3 harg3 arg4 harg4 (BitVec.ofNat 32 (i 0).val) h2 k0_pay51
    (Scalar.muli (BitVec.ofNat 32 (i 0).val) 4000#32) (harg1.unread x0) (start i) k

/-- The last chunk of the input block. -/
def lastChunk (arg1 : Memref sig .tc .vmem S4000x128 .f32) (harg1 : arg1.IsWhole) (x0 : Vec F S4000x128 .f32) : Vec F S80x128 .f32 :=
  arg1.view.readAt (Elt F) (Rect.unit (s := S4000x128) ![3920, 0] S80x128.size inb_S4000x128_S80x128_3920_0).toLoadRect (harg1.unread x0)

theorem start_eq (i : grid0.Coords) :
    start (F := F) i = (k0_pay96 (F := F) (k0_pay94 third (k0_pay82 (k0_pay71 third (k0_pay59 (BitVec.ofNat 32 (i 0).val)) (k0_pay60 (BitVec.ofNat 32 (i 0).val))) (k0_pay72 third (k0_pay59 (BitVec.ofNat 32 (i 0).val)) (k0_pay60 (BitVec.ofNat 32 (i 0).val))) 15#32) (k0_pay83 (k0_pay71 third (k0_pay59 (BitVec.ofNat 32 (i 0).val)) (k0_pay60 (BitVec.ofNat 32 (i 0).val))) (k0_pay72 third (k0_pay59 (BitVec.ofNat 32 (i 0).val)) (k0_pay60 (BitVec.ofNat 32 (i 0).val))) 15#32)) (k0_pay95 third (k0_pay82 (k0_pay71 third (k0_pay59 (BitVec.ofNat 32 (i 0).val)) (k0_pay60 (BitVec.ofNat 32 (i 0).val))) (k0_pay72 third (k0_pay59 (BitVec.ofNat 32 (i 0).val)) (k0_pay60 (BitVec.ofNat 32 (i 0).val))) 15#32) (k0_pay83 (k0_pay71 third (k0_pay59 (BitVec.ofNat 32 (i 0).val)) (k0_pay60 (BitVec.ofNat 32 (i 0).val))) (k0_pay72 third (k0_pay59 (BitVec.ofNat 32 (i 0).val)) (k0_pay60 (BitVec.ofNat 32 (i 0).val))) 15#32)) 5#32,
      wordV (k0_pay97 k0_pay51 (Scalar.muli (BitVec.ofNat 32 (i 0).val) 4000#32)), k0_pay143) := by
  unfold start
  rw [first_lg, ← first_word]

theorem fill_table (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : k0_cond2 i = 1#1) (hc2 : ¬k0_cond3 i = 1#1)
    (x0 : Vec F S4000x128 .f32) (xs0 : Vec F S8x128 .f32) (xs1 : Vec F S100000x128 .f32) :
    (runFill (F := F) c i arg1 harg1 arg2 harg2 arg3 harg3 arg4 harg4 hc0 hc1 hc2 x0 xs0 xs1).1.2
      = ⟨Rect.unit (s := S100000x128) (k0_off3 i) S80x128.size (k0_off3_inb i hc1), k0_pay149 (stateAt c i arg1 harg1 arg2 harg2 arg3 harg3 arg4 harg4 hc1 x0 k0_t1_loop.trips).1.1 (lastChunk arg1 harg1 x0)⟩
          :: (stateAt c i arg1 harg1 arg2 harg2 arg3 harg3 arg4 harg4 hc1 x0 k0_t1_loop.trips).2 := by
  unfold stateAt
  rw [start_eq, ← second_word]
  delta runFill
  rfl

theorem fill_sums (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : k0_cond2 i = 1#1) (hc2 : ¬k0_cond3 i = 1#1)
    (x0 : Vec F S4000x128 .f32) (xs0 : Vec F S8x128 .f32) (xs1 : Vec F S100000x128 .f32) :
    (runFill (F := F) c i arg1 harg1 arg2 harg2 arg3 harg3 arg4 harg4 hc0 hc1 hc2 x0 xs0 xs1).1.1
      = [⟨Rect.unit (s := S8x128) ![0, 0] S8x128.size inb_S8x128_S8x128_0_0,
          k0_pay2 (k0_pay150 (stateAt c i arg1 harg1 arg2 harg2 arg3 harg3 arg4 harg4 hc1 x0 k0_t1_loop.trips).1.1
            (stateAt c i arg1 harg1 arg2 harg2 arg3 harg3 arg4 harg4 hc1 x0 k0_t1_loop.trips).1.2.2 (lastChunk arg1 harg1 x0)
            (arg3.view.readAt (Elt F) (Rect.unit (s := S8x128) ![0, 0] S8x128.size inb_S8x128_S8x128_0_0).toLoadRect (harg3.unread xs0)))⟩] := by
  unfold stateAt
  rw [start_eq, ← second_word]
  delta runFill
  rfl

theorem first_table (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : atStart i) (hc1 : k0_cond2 i = 1#1) (hc2 : ¬k0_cond3 i = 1#1)
    (x0 : Vec F S4000x128 .f32) (xs1 : Vec F S100000x128 .f32) :
    (runFirst (F := F) c i arg1 harg1 arg2 harg2 arg3 harg3 arg4 harg4 hc0 hc1 hc2 x0 xs1).1.2
      = ⟨Rect.unit (s := S100000x128) (k0_off3 i) S80x128.size (k0_off3_inb i hc1), k0_pay149 (stateAt c i arg1 harg1 arg2 harg2 arg3 harg3 arg4 harg4 hc1 x0 k0_t1_loop.trips).1.1 (lastChunk arg1 harg1 x0)⟩
          :: (stateAt c i arg1 harg1 arg2 harg2 arg3 harg3 arg4 harg4 hc1 x0 k0_t1_loop.trips).2 := by
  unfold stateAt
  rw [start_eq, ← second_word]
  delta runFirst
  rfl

theorem first_sums (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : atStart i) (hc1 : k0_cond2 i = 1#1) (hc2 : ¬k0_cond3 i = 1#1)
    (x0 : Vec F S4000x128 .f32) (xs1 : Vec F S100000x128 .f32) :
    (runFirst (F := F) c i arg1 harg1 arg2 harg2 arg3 harg3 arg4 harg4 hc0 hc1 hc2 x0 xs1).1.1
      = [⟨Rect.unit (s := S8x128) ![0, 0] S8x128.size inb_S8x128_S8x128_0_0,
          k0_pay2 (k0_pay150 (stateAt c i arg1 harg1 arg2 harg2 arg3 harg3 arg4 harg4 hc1 x0 k0_t1_loop.trips).1.1
            (stateAt c i arg1 harg1 arg2 harg2 arg3 harg3 arg4 harg4 hc1 x0 k0_t1_loop.trips).1.2.2 (lastChunk arg1 harg1 x0)
            (arg3.view.readCov (Val := Elt F) [⟨Rect.unit (s := S8x128) ![0, 0] S8x128.size inb_S8x128_S8x128_0_0, k0_pay1⟩]
              (Rect.unit (s := S8x128) ![0, 0] S8x128.size inb_S8x128_S8x128_0_0).toLoadRect))⟩,
        ⟨Rect.unit (s := S8x128) ![0, 0] S8x128.size inb_S8x128_S8x128_0_0, k0_pay1⟩] := by
  unfold stateAt
  rw [start_eq, ← second_word]
  delta runFirst
  rfl

/-- What is stored at one of the last 50 points. -/
theorem scale_block (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)
    (hc0 : ¬atStart i) (hc1 : ¬k0_cond2 i = 1#1) (hc2 : k0_cond3 i = 1#1)
    (x0 : Vec F S4000x128 .f32) (xs0 : Vec F S8x128 .f32) (xs1 : Vec F S100000x128 .f32) :
    (runScale (F := F) c i arg1 harg1 arg2 harg2 arg3 harg3 arg4 harg4 hc0 hc1 hc2 x0 xs0 xs1).1
      = [⟨Rect.unit (s := S2000x128) ![0, 0] S2000x128.size inb_S2000x128_S2000x128_0_0,
          k0_pay3 (arg3.view.readAt (Elt F) (Rect.unit (s := S8x128) ![0, 0] S8x128.size inb_S8x128_S8x128_0_0).toLoadRect (harg3.unread xs0))
            (arg4.view.readAt (Elt F) (Rect.unit (s := S100000x128) (k0_off4 i) S2000x128.size (k0_off4_inb i hc2)).toLoadRect (harg4.unread xs1))⟩] := by
  delta runScale
  rfl

end Generic

end Cert.KernelIdeal.Gen

end
-- ==== Proof.Point.lean ====
module

public import proofs.«01_k».proof.Proof.Fill
public import Idealize.ShloMosaic.Lib.VecWindow

@[expose] public section

set_option maxRecDepth 16384

noncomputable section

namespace Cert.KernelIdeal.Gen

open Idealize.ShloMosaic Idealize.ShloMosaic.TcCoe
open Cert.Soft

/-! ## What one point leaves, over the extended reals -/

theorem trips_49 : k0_t1_loop.trips = 49 := by decide

/-- Eighty more terms of a sum. -/
theorem sum_more (f : ℕ → EReal) (a : ℕ) :
    ∑ n ∈ Finset.range a, f n + ∑ r : Fin 80, f (a + r.val) = ∑ n ∈ Finset.range (a + 80), f n := by
  rw [Finset.sum_range_add, Finset.sum_range (fun r => f (a + r))]

/-- One chunk more in the column sums. -/
theorem chunk_sum (T : ℕ → Fin 128 → EReal) (o a : ℕ) (q : FVec Ideal S80x128 .f32) (acc : FVec Ideal S8x128 .f32) (x : FVec Ideal S80x128 .f32) (l : Fin 128)
    (hq : ∀ r : Fin 80, q (ix2 r l) = lgw (word (BitVec.ofNat 32 (100000 * l.val + (o + a + r.val)) + 42)))
    (hacc : ∑ s : Fin 8, acc (ix2 s l) = ∑ n ∈ Finset.range a, weight T (o + n) l)
    (hx : ∀ r : Fin 80, x (ix2 r l) = T (o + a + r.val) l) :
    ∑ s : Fin 8, acc (ix2 s l) + ∑ r : Fin 80, wt (q (ix2 r l)) (x (ix2 r l)) = ∑ n ∈ Finset.range (a + 80), weight T (o + n) l := by
  rw [hacc, ← sum_more (fun n => weight T (o + n) l) a]
  congr 1
  refine Finset.sum_congr rfl fun r _ => ?_
  rw [hq, hx, Nat.add_assoc o a r.val]
  unfold weight
  rfl

/-- One chunk more in the table. -/
theorem chunk_table (T : ℕ → Fin 128 → EReal) (o a : ℕ) (q x : FVec Ideal S80x128 .f32) (n : Fin 100000) (l : Fin 128)
    (hq : ∀ r : Fin 80, q (ix2 r l) = lgw (word (BitVec.ofNat 32 (100000 * l.val + (o + a + r.val)) + 42)))
    (hx : ∀ r : Fin 80, x (ix2 r l) = T (o + a + r.val) l) (w : FVec Ideal S80x128 .f32) (hw : ∀ r : Fin 80, w (ix2 r l) = wt (q (ix2 r l)) (x (ix2 r l)))
    (old old' : EReal) (hold : old = if o ≤ n.val ∧ n.val < o + a then weight T n.val l else old') :
    (if h : o + a ≤ n.val ∧ n.val < o + a + 80 then w (ix2 ⟨n.val - (o + a), by omega⟩ l) else old)
      = if o ≤ n.val ∧ n.val < o + (a + 80) then weight T n.val l else old' := by
  by_cases h : o + a ≤ n.val ∧ n.val < o + a + 80
  · have hn : o + a + (n.val - (o + a)) = n.val := by omega
    rw [dif_pos h, if_pos (by omega), hw, hq, hx]
    simp only [hn]
    rfl
  · rw [dif_neg h, hold]
    by_cases h' : o ≤ n.val ∧ n.val < o + a
    · rw [if_pos h', if_pos (by omega)]
    · rw [if_neg h', if_neg (by omega)]

section Body

variable (c : Dev nD) (i : grid0.Coords) (arg1 : Memref sig .tc .vmem S4000x128 .f32) (harg1 : arg1.IsWhole) (arg2 : Memref sig .tc .vmem S2000x128 .f32) (harg2 : arg2.IsWhole) (arg3 : Memref sig .tc .vmem S8x128 .f32) (harg3 : arg3.IsWhole) (arg4 : Memref sig .tc .vmem S100000x128 .f32) (harg4 : arg4.IsWhole)

/-- Before trip `k`: the logarithms of chunk `k`, the words of chunk `k + 1`, the column sums of the weights of the
    chunks before, and those weights in the table. -/
theorem state_at (h2 : k0_cond2 i = 1#1) (x0 : FVec Ideal S4000x128 .f32) (T : ℕ → Fin 128 → EReal)
    (hx : ∀ (r : Fin 4000) (l : Fin 128), x0 (ix2 r l) = T (4000 * (i 0).val + r.val) l) (k : ℕ) (hk : k ≤ 49) :
    (∀ (r : Fin 80) (l : Fin 128), (stateAt (F := Ideal) c i arg1 harg1 arg2 harg2 arg3 harg3 arg4 harg4 h2 x0 k).1.1 (ix2 r l)
        = lgw (word (BitVec.ofNat 32 (100000 * l.val + (4000 * (i 0).val + 80 * k + r.val)) + 42)))
    ∧ (∀ (r : Fin 80) (l : Fin 128), (stateAt (F := Ideal) c i arg1 harg1 arg2 harg2 arg3 harg3 arg4 harg4 h2 x0 k).1.2.1 (ix2 r l)
        = word (BitVec.ofNat 32 (100000 * l.val + (4000 * (i 0).val + 80 * (k + 1) + r.val)) + 42))
    ∧ (∀ l : Fin 128, ∑ s : Fin 8, (stateAt (F := Ideal) c i arg1 harg1 arg2 harg2 arg3 harg3 arg4 harg4 h2 x0 k).1.2.2 (ix2 s l)
        = ∑ n ∈ Finset.range (80 * k), weight T (4000 * (i 0).val + n) l)
    ∧ (∀ (f : arg4.view.ty.Contents (Elt Ideal)) (n : Fin 100000) (l : Fin 128),
        arg4.view.read (Elt Ideal) (arg4.view.writes (Elt Ideal) f (stateAt (F := Ideal) c i arg1 harg1 arg2 harg2 arg3 harg3 arg4 harg4 h2 x0 k).2) (ix2 n l)
        = if 4000 * (i 0).val ≤ n.val ∧ n.val < 4000 * (i 0).val + 80 * k then weight T n.val l else arg4.view.read (Elt Ideal) f (ix2 n l)) := by
  induction k with
  | zero =>
    refine ⟨fun r l => ?_, fun r l => ?_, fun l => ?_, fun f n l => ?_⟩
    · show k0_pay4 (F := Ideal) (wordV (k0_pay52 (BitVec.ofNat 32 (i 0).val))) (ix2 r l) = _
      rw [lgV_at, wordV_at, counter52]
      rfl
    · show wordV (k0_pay97 k0_pay51 (Scalar.muli (BitVec.ofNat 32 (i 0).val) 4000#32)) (ix2 r l) = _
      rw [wordV_at, counter97]
    · show ∑ s : Fin 8, k0_pay143 (F := Ideal) (ix2 s l) = _
      simp only [zeros143]
      simp
    · rw [if_neg (by omega)]
      rfl
  | succ k ih =>
    obtain ⟨h1, h3, h4, h5⟩ := ih (by omega)
    have hkt : k < k0_t1_loop.trips := by rw [trips_49]; omega
    have hs := st_k0_t1_succ (F := Ideal) Variants.none c none i arg1 harg1 arg2 harg2 arg3 harg3 arg4 harg4 (BitVec.ofNat 32 (i 0).val) h2 k0_pay51
      (Scalar.muli (BitVec.ofNat 32 (i 0).val) 4000#32) (harg1.unread x0) (start i) ⟨k, hkt⟩
    rw [tripR_eq, tripL_eq] at hs
    have hs' : stateAt (F := Ideal) c i arg1 harg1 arg2 harg2 arg3 harg3 arg4 harg4 h2 x0 (k + 1) = _ := hs
    have hchunk : ∀ (r : Fin 80) (l : Fin 128),
        arg1.view.readAt (Elt Ideal) (Rect.unit (s := S4000x128) (k0_off1 ⟨k, hkt⟩) S80x128.size (k0_off1_inb i ⟨k, hkt⟩ h2)).toLoadRect (harg1.unread x0) (ix2 r l)
          = T (4000 * (i 0).val + 80 * k + r.val) l := by
      intro r l
      rw [chunk_at arg1 harg1 x0 _ (80 * k) (k0_off1_eq ⟨k, hkt⟩) _ r l (by omega), hx]
      congr 1
      show 4000 * (i 0).val + (80 * k + r.val) = _
      omega
    rw [hs']
    refine ⟨fun r l => ?_, fun r l => ?_, fun l => ?_, fun f n l => ?_⟩
    · show k0_pay4 (F := Ideal) _ (ix2 r l) = _
      rw [lgV_at]
      exact congrArg lgw (h3 r l)
    · show wordV _ (ix2 r l) = _
      rw [wordV_at, counter5]
    · show ∑ s : Fin 8, k0_pay147 (F := Ideal) _ _ _ (ix2 s l) = _
      rw [sum147, Nat.mul_succ]
      exact chunk_sum T (4000 * (i 0).val) (80 * k) _ _ _ l (fun r => h1 r l) (h4 l) (fun r => hchunk r l)
    · rw [Nat.mul_succ]
      refine (stored_at arg4 f _ _ (4000 * (i 0).val + 80 * k) (k0_off2_eq i ⟨k, hkt⟩) _ _ n l).trans ?_
      exact chunk_table T (4000 * (i 0).val) (80 * k) _ _ n l (fun r => h1 r l) (fun r => hchunk r l) _ (fun r => put146_at _ _ _) _ _ (h5 f n l)

/-- The last chunk of the block. -/
theorem last_at (x0 : FVec Ideal S4000x128 .f32) (T : ℕ → Fin 128 → EReal)
    (hx : ∀ (r : Fin 4000) (l : Fin 128), x0 (ix2 r l) = T (4000 * (i 0).val + r.val) l) (r : Fin 80) (l : Fin 128) :
    lastChunk (F := Ideal) arg1 harg1 x0 (ix2 r l) = T (4000 * (i 0).val + 3920 + r.val) l := by
  unfold lastChunk
  rw [chunk_at arg1 harg1 x0 _ 3920 rfl _ r l (by omega), hx]
  congr 1
  show 4000 * (i 0).val + (3920 + r.val) = _
  omega

/-- The table after a point of the first 25: the point's 4000 rows are the weights, the others as they were. -/
theorem table_at (h2 : k0_cond2 i = 1#1) (x0 : FVec Ideal S4000x128 .f32) (T : ℕ → Fin 128 → EReal)
    (hx : ∀ (r : Fin 4000) (l : Fin 128), x0 (ix2 r l) = T (4000 * (i 0).val + r.val) l)
    (f : arg4.view.ty.Contents (Elt Ideal)) (n : Fin 100000) (l : Fin 128) :
    arg4.view.read (Elt Ideal) (arg4.view.writes (Elt Ideal) f
        (⟨Rect.unit (s := S100000x128) (k0_off3 i) S80x128.size (k0_off3_inb i h2), k0_pay149 (F := Ideal) (stateAt (F := Ideal) c i arg1 harg1 arg2 harg2 arg3 harg3 arg4 harg4 h2 x0 k0_t1_loop.trips).1.1 (lastChunk (F := Ideal) arg1 harg1 x0)⟩
          :: (stateAt (F := Ideal) c i arg1 harg1 arg2 harg2 arg3 harg3 arg4 harg4 h2 x0 k0_t1_loop.trips).2)) (ix2 n l)
      = if 4000 * (i 0).val ≤ n.val ∧ n.val < 4000 * (i 0).val + 4000 then weight T n.val l else arg4.view.read (Elt Ideal) f (ix2 n l) := by
  rw [trips_49]
  obtain ⟨h1, -, -, h5⟩ := state_at c i arg1 harg1 arg2 harg2 arg3 harg3 arg4 harg4 h2 x0 T hx 49 le_rfl
  rw [stored_at arg4 f _ _ (4000 * (i 0).val + 3920) (k0_off3_eq i) _ _ n l]
  exact chunk_table T (4000 * (i 0).val) 3920 _ _ n l (fun r => h1 r l) (fun r => last_at i arg1 harg1 x0 T hx r l) _ (fun r => put149_at _ _ _) _ _ (h5 f n l)

/-- The column sums after a point of the first 25: those before, and the point's 4000 weights. -/
theorem sums_at (h2 : k0_cond2 i = 1#1) (x0 : FVec Ideal S4000x128 .f32) (T : ℕ → Fin 128 → EReal)
    (hx : ∀ (r : Fin 4000) (l : Fin 128), x0 (ix2 r l) = T (4000 * (i 0).val + r.val) l) (old : FVec Ideal S8x128 .f32) (l : Fin 128) :
    ∑ s : Fin 8, k0_pay2 (F := Ideal) (k0_pay150 (stateAt (F := Ideal) c i arg1 harg1 arg2 harg2 arg3 harg3 arg4 harg4 h2 x0 k0_t1_loop.trips).1.1
            (stateAt (F := Ideal) c i arg1 harg1 arg2 harg2 arg3 harg3 arg4 harg4 h2 x0 k0_t1_loop.trips).1.2.2 (lastChunk arg1 harg1 x0) old) (ix2 s l)
      = ∑ s : Fin 8, old (ix2 s l) + ∑ n ∈ Finset.range 4000, weight T (4000 * (i 0).val + n) l := by
  rw [store2, trips_49]
  obtain ⟨h1, -, h4, -⟩ := state_at c i arg1 harg1 arg2 harg2 arg3 harg3 arg4 harg4 h2 x0 T hx 49 le_rfl
  rw [sum150]
  congr 1
  exact chunk_sum T (4000 * (i 0).val) 3920 _ _ _ l (fun r => h1 r l) (h4 l) (fun r => last_at i arg1 harg1 x0 T hx r l)

/-- At a later point of the first 25: the table. -/
theorem fill_table_at (hc0 : ¬atStart i) (hc1 : k0_cond2 i = 1#1) (hc2 : ¬k0_cond3 i = 1#1)
    (x0 : FVec Ideal S4000x128 .f32) (xs0 : FVec Ideal S8x128 .f32) (xs1 : FVec Ideal S100000x128 .f32) (T : ℕ → Fin 128 → EReal)
    (hx : ∀ (r : Fin 4000) (l : Fin 128), x0 (ix2 r l) = T (4000 * (i 0).val + r.val) l) (n : Fin 100000) (l : Fin 128) :
    arg4.view.read (Elt Ideal) (arg4.view.writes (Elt Ideal) (harg4.unread xs1) (runFill (F := Ideal) c i arg1 harg1 arg2 harg2 arg3 harg3 arg4 harg4 hc0 hc1 hc2 x0 xs0 xs1).1.2) (ix2 n l)
      = if 4000 * (i 0).val ≤ n.val ∧ n.val < 4000 * (i 0).val + 4000 then weight T n.val l else xs1 (ix2 n l) := by
  rw [fill_table, table_at c i arg1 harg1 arg2 harg2 arg3 harg3 arg4 harg4 hc1 x0 T hx, harg4.read_unread]

/-- At a later point of the first 25: the sums. -/
theorem fill_sums_at (hc0 : ¬atStart i) (hc1 : k0_cond2 i = 1#1) (hc2 : ¬k0_cond3 i = 1#1)
    (x0 : FVec Ideal S4000x128 .f32) (xs0 : FVec Ideal S8x128 .f32) (xs1 : FVec Ideal S100000x128 .f32) (T : ℕ → Fin 128 → EReal)
    (hx : ∀ (r : Fin 4000) (l : Fin 128), x0 (ix2 r l) = T (4000 * (i 0).val + r.val) l) (f : arg3.view.ty.Contents (Elt Ideal)) (l : Fin 128) :
    ∑ s : Fin 8, arg3.view.read (Elt Ideal) (arg3.view.writes (Elt Ideal) f (runFill (F := Ideal) c i arg1 harg1 arg2 harg2 arg3 harg3 arg4 harg4 hc0 hc1 hc2 x0 xs0 xs1).1.1) (ix2 s l)
      = ∑ s : Fin 8, xs0 (ix2 s l) + ∑ n ∈ Finset.range 4000, weight T (4000 * (i 0).val + n) l := by
  rw [fill_sums]
  have h := View.read_writes_full (Val := Elt Ideal) arg3.view f (off := ![0, 0]) inb_S8x128_S8x128_0_0
  rw [h]
  have h' := View.readAt_full (Val := Elt Ideal) arg3.view (harg3.unread xs0) (off := ![0, 0]) inb_S8x128_S8x128_0_0
  rw [h', harg3.read_unread]
  exact sums_at c i arg1 harg1 arg2 harg2 arg3 harg3 arg4 harg4 hc1 x0 T hx xs0 l

/-- At the first point: the table. -/
theorem first_table_at (hc0 : atStart i) (hc1 : k0_cond2 i = 1#1) (hc2 : ¬k0_cond3 i = 1#1)
    (x0 : FVec Ideal S4000x128 .f32) (xs1 : FVec Ideal S100000x128 .f32) (T : ℕ → Fin 128 → EReal)
    (hx : ∀ (r : Fin 4000) (l : Fin 128), x0 (ix2 r l) = T (4000 * (i 0).val + r.val) l) (n : Fin 100000) (l : Fin 128) :
    arg4.view.read (Elt Ideal) (arg4.view.writes (Elt Ideal) (harg4.unread xs1) (runFirst (F := Ideal) c i arg1 harg1 arg2 harg2 arg3 harg3 arg4 harg4 hc0 hc1 hc2 x0 xs1).1.2) (ix2 n l)
      = if 4000 * (i 0).val ≤ n.val ∧ n.val < 4000 * (i 0).val + 4000 then weight T n.val l else xs1 (ix2 n l) := by
  rw [first_table, table_at c i arg1 harg1 arg2 harg2 arg3 harg3 arg4 harg4 hc1 x0 T hx, harg4.read_unread]

/-- At the first point: the sums. -/
theorem first_sums_at (hc0 : atStart i) (hc1 : k0_cond2 i = 1#1) (hc2 : ¬k0_cond3 i = 1#1)
    (x0 : FVec Ideal S4000x128 .f32) (xs1 : FVec Ideal S100000x128 .f32) (T : ℕ → Fin 128 → EReal)
    (hx : ∀ (r : Fin 4000) (l : Fin 128), x0 (ix2 r l) = T (4000 * (i 0).val + r.val) l) (f : arg3.view.ty.Contents (Elt Ideal)) (l : Fin 128) :
    ∑ s : Fin 8, arg3.view.read (Elt Ideal) (arg3.view.writes (Elt Ideal) f (runFirst (F := Ideal) c i arg1 harg1 arg2 harg2 arg3 harg3 arg4 harg4 hc0 hc1 hc2 x0 xs1).1.1) (ix2 s l)
      = ∑ n ∈ Finset.range 4000, weight T (4000 * (i 0).val + n) l := by
  rw [first_sums]
  have h := View.read_writes_full (Val := Elt Ideal) arg3.view f (off := ![0, 0]) inb_S8x128_S8x128_0_0
  rw [h]
  have h' := View.readCov_full (Val := Elt Ideal) arg3.view (off := ![0, 0]) (off' := ![0, 0]) inb_S8x128_S8x128_0_0 inb_S8x128_S8x128_0_0
  rw [h']
  refine (sums_at c i arg1 harg1 arg2 harg2 arg3 harg3 arg4 harg4 hc1 x0 T hx k0_pay1 l).trans ?_
  simp only [zeros1]
  simp

/-- At one of the last 50 points, the block the point stores, whose first row is row `o` of the table. -/
theorem scale_at (hc0 : ¬atStart i) (hc1 : ¬k0_cond2 i = 1#1) (hc2 : k0_cond3 i = 1#1)
    (x0 : FVec Ideal S4000x128 .f32) (xs0 : FVec Ideal S8x128 .f32) (xs1 : FVec Ideal S100000x128 .f32)
    (o : ℕ) (ho : k0_off4 i = ![o, 0]) (f : arg2.view.ty.Contents (Elt Ideal)) (r : Fin 2000) (l : Fin 128) (h : o + r.val < 100000) :
    arg2.view.read (Elt Ideal) (arg2.view.writes (Elt Ideal) f (runScale (F := Ideal) c i arg1 harg1 arg2 harg2 arg3 harg3 arg4 harg4 hc0 hc1 hc2 x0 xs0 xs1).1) (ix2 r l)
      = xs1 (ix2 ⟨o + r.val, h⟩ l) * Ideal.div 1 (∑ s : Fin 8, xs0 (ix2 s l)) := by
  rw [scale_block]
  have h1 := View.read_writes_full (Val := Elt Ideal) arg2.view f (off := ![0, 0]) inb_S2000x128_S2000x128_0_0
  rw [h1]
  have h2 := View.readAt_full (Val := Elt Ideal) arg3.view (harg3.unread xs0) (off := ![0, 0]) inb_S8x128_S8x128_0_0
  rw [h2, harg3.read_unread, scaled_at, harg4.readAt_unread]
  congr 2
  funext a
  apply Fin.ext
  match a with
  | ⟨0, _⟩ =>
    show k0_off4 i 0 + 1 * r.val = o + r.val
    rw [ho]
    show o + 1 * r.val = _
    omega
  | ⟨1, _⟩ =>
    show k0_off4 i 1 + 1 * l.val = l.val
    rw [ho]
    show 0 + 1 * l.val = _
    omega

end Body

end Cert.KernelIdeal.Gen

end
-- ==== Proof.KernRun.lean ====
module

public import proofs.«01_k».proof.Proof.Point
public import Idealize.ShloMosaic.Lib.Claim
public import Idealize.ShloMosaic.Lib.Pipeline.TableIdle
public import Idealize.ShloMosaic.Lib.Pipeline.ValueKit
public import Idealize.ShloMosaic.Lib.Pipeline.Quiescent

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕀" => Idealize.ShloMosaic.Ideal
local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-! ## What the points leave -/

/-- The logits as the region finds them, row by row of the transposed array. -/
def logits (c : Dev nD) (n : ℕ) (l : Fin 128) : EReal :=
  if h : n < 100000 then V m c main_v0 (ix2 ⟨n, h⟩ l) else 0

/-- What the scratch buffers hold after the rows before `N` are done: the column sums, and the weights. -/
def Done (c : Dev nD) (N : ℕ) (d0 : FVec 𝕀 S8x128 .f32) (d1 : FVec 𝕀 S100000x128 .f32) : Prop :=
  (∀ l : Fin 128, ∑ s : Fin 8, d0 (ix2 s l) = ∑ n ∈ Finset.range N, weight (logits m c) n l)
    ∧ ∀ (n : Fin 100000) (l : Fin 128), n.val < N → d1 (ix2 n l) = weight (logits m c) n.val l

/-- The rows done before point `n`. -/
abbrev rowsDone (n : ℕ) : ℕ := 4000 * min n 25

/-- The invariant before point `n`: nothing is known at first, then the scratch buffers hold what is done. -/
def PhiS (c : Dev nD) (n : ℕ) : sProp 𝕄 :=
  if n = 0 then Pipeline.ΦA spec0 c
  else iprop((∃ d0, ∃ d1, ⌜Done m c (rowsDone n) d0 d1⌝ ∗ owns (c : Thread nD τ) sumMem fullShare d0 ∗ owns (c : Thread nD τ) expMem fullShare d1) ∗ (∃ r, prngReg c r))

/-- The block stored at point `t` of the last 50. -/
def outBlock (c : Dev nD) (t : Fin cfg0.N) : FVec 𝕀 S2000x128 .f32 := fun y =>
  weight (logits m c) (2000 * (t.val - 25) + (y 0).val) (y 1) * Ideal.div 1 (∑ n ∈ Finset.range 100000, weight (logits m c) n (y 1))

/-- The proof data: the input window at its block, the output window at the block just described. -/
def dats (_ : Fin 1) (c : Dev nD) : Dat τ (Elt 𝕀) Unit ℕ (UR sig nD τ) ℕ cfg0 c where
  A w := V m c (Pipeline.arrRef spec0 w)
  after w t := match w with
    | ⟨0, _⟩ => iblk m c 0 t
    | ⟨1, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlock m c t := by dsimp only [dats]

theorem before0_0 (c : Dev nD) (t : Fin cfg0.N) (d) : (dats m 0 c).before 0 t d = iblk m c 0 t :=
  before0_0_of m (dats m 0 c) (A_eq m c 0) (after0_0 m c) t d

theorem Phi_eq (c : Dev nD) (t : Fin (cfg0.N + 1)) : (dats m 0 c).Φ t = PhiS m c t.val := by dsimp only [dats]

theorem coord_val (t : Fin cfg0.N) : (grid0.coords t 0).val = t.val := by
  have ht : t.val < 75 := Nat.lt_of_lt_of_eq t.isLt N_0
  have e0 : (grid0.coords t 0).val = t.val / 1 % 75 := Pipeline.Grid.coords_val t 0 (by decide) rfl
  omega

theorem index0 : ∀ t : Fin cfg0.N, t.val < 25 → win0_0.index t = ![t.val, 0] :=
  (by decide +kernel : ∀ t : Fin grid0.N, t.val < 25 → win0_0.index t = ![t.val, 0])

/-- The block of the input at one of the first 25 points. -/
theorem block_at (c : Dev nD) (t : Fin cfg0.N) (ht : t.val < 25) (r : Fin 4000) (l : Fin 128) :
    iblk m c 0 t (ix2 r l) = logits m c (4000 * (grid0.coords t 0).val + r.val) l := by
  have hc := coord_val t
  have hlt : 4000 * (grid0.coords t 0).val + r.val < 100000 := by omega
  unfold logits
  rw [dif_pos hlt]
  blk_ext [iblk, index0 t ht]

/-! ## The body obligation -/

theorem live0 (t : Fin cfg0.N) : cfg0.idle 0 (grid0.coords t) = false := rfl
theorem idle1 : ∀ t : Fin cfg0.N, t.val < 25 → cfg0.idle 1 (grid0.coords t) = true :=
  (by decide +kernel : ∀ t : Fin grid0.N, t.val < 25 → idle0 1 (grid0.coords t) = true)
theorem live1 : ∀ t : Fin cfg0.N, 25 ≤ t.val → cfg0.idle 1 (grid0.coords t) = false :=
  (by decide +kernel : ∀ t : Fin grid0.N, 25 ≤ t.val → idle0 1 (grid0.coords t) = false)
theorem kept1 : ∀ t : Fin cfg0.N, t.val < 25 → (cfg0.win 1).flush t = false :=
  (by decide +kernel : ∀ t : Fin grid0.N, t.val < 25 → win0_1.flush t = false)
theorem off4_at : ∀ t : Fin cfg0.N, 25 ≤ t.val → k0_off4 (grid0.coords t) = ![2000 * (t.val - 25), 0] :=
  (by decide +kernel : ∀ t : Fin grid0.N, 25 ≤ t.val → k0_off4 (grid0.coords t) = ![2000 * (t.val - 25), 0])

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inMem t) fullShare ((dats m 0 c).before 0 t d))
    ∗ (∃ d, owns (c : Thread nD τ) (outMem t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves0 (c : Dev nD) (t : Fin cfg0.N) :
    (dats m 0 c).leavesExact 0 t = owns (c : Thread nD τ) (inMem t) fullShare (iblk m c 0 t) := by
  unfold Dat.leavesExact; rw [live0 t, after0_0]

theorem leaves1 (c : Dev nD) (t : Fin cfg0.N) (ht : 25 ≤ t.val) :
    (dats m 0 c).leavesExact 1 t = owns (c : Thread nD τ) (outMem t) fullShare (outBlock m c t) := by
  unfold Dat.leavesExact; rw [live1 t ht, after0_1]

theorem done_first (c : Dev nD) (t : Fin cfg0.N) (hz : t.val = 0) (d0 : FVec 𝕀 S8x128 .f32) (xs1 d1 : FVec 𝕀 S100000x128 .f32)
    (h0 : ∀ l : Fin 128, ∑ s : Fin 8, d0 (ix2 s l) = ∑ n ∈ Finset.range 4000, weight (logits m c) (4000 * (grid0.coords t 0).val + n) l)
    (h1 : ∀ (n : Fin 100000) (l : Fin 128), d1 (ix2 n l) = if 4000 * (grid0.coords t 0).val ≤ n.val ∧ n.val < 4000 * (grid0.coords t 0).val + 4000 then weight (logits m c) n.val l else xs1 (ix2 n l)) :
    Done m c (rowsDone (t.val + 1)) d0 d1 := by
  rw [coord_val, hz] at h0 h1
  rw [hz]
  refine ⟨fun l => ?_, fun n l hn => ?_⟩
  · rw [h0 l, show rowsDone (0 + 1) = 4000 from rfl]
    simp
  · have hn : n.val < 4000 := hn
    rw [h1, if_pos (by omega)]

theorem done_fill (c : Dev nD) (t : Fin cfg0.N) (ht : t.val < 25) (xs0 d0 : FVec 𝕀 S8x128 .f32) (xs1 d1 : FVec 𝕀 S100000x128 .f32)
    (hd : Done m c (rowsDone t.val) xs0 xs1)
    (h0 : ∀ l : Fin 128, ∑ s : Fin 8, d0 (ix2 s l) = ∑ s : Fin 8, xs0 (ix2 s l) + ∑ n ∈ Finset.range 4000, weight (logits m c) (4000 * (grid0.coords t 0).val + n) l)
    (h1 : ∀ (n : Fin 100000) (l : Fin 128), d1 (ix2 n l) = if 4000 * (grid0.coords t 0).val ≤ n.val ∧ n.val < 4000 * (grid0.coords t 0).val + 4000 then weight (logits m c) n.val l else xs1 (ix2 n l)) :
    Done m c (rowsDone (t.val + 1)) d0 d1 := by
  have e0 : rowsDone t.val = 4000 * t.val := by unfold rowsDone; omega
  have e1 : rowsDone (t.val + 1) = 4000 * t.val + 4000 := by unfold rowsDone; omega
  rw [e0] at hd
  rw [e1]
  rw [coord_val] at h0 h1
  refine ⟨fun l => ?_, fun n l hn => ?_⟩
  · rw [h0, hd.1, Finset.sum_range_add]
  · rw [h1]
    by_cases h : 4000 * t.val ≤ n.val ∧ n.val < 4000 * t.val + 4000
    · rw [if_pos h]
    · rw [if_neg h, hd.2 n l (by omega)]

theorem block_done (c : Dev nD) (t : Fin cfg0.N) (ht : 25 ≤ t.val) (xs0 : FVec 𝕀 S8x128 .f32) (xs1 : FVec 𝕀 S100000x128 .f32)
    (hd : Done m c (rowsDone t.val) xs0 xs1) (d : FVec 𝕀 S2000x128 .f32)
    (h : ∀ (r : Fin 2000) (l : Fin 128) (hr : 2000 * (t.val - 25) + r.val < 100000), d (ix2 r l) = xs1 (ix2 ⟨2000 * (t.val - 25) + r.val, hr⟩ l) * Ideal.div 1 (∑ s : Fin 8, xs0 (ix2 s l))) :
    d = outBlock m c t := by
  have hN : t.val < 75 := Nat.lt_of_lt_of_eq t.isLt N_0
  have e0 : rowsDone t.val = 100000 := by unfold rowsDone; omega
  rw [e0] at hd
  funext y
  obtain ⟨r, l, rfl⟩ : ∃ (r : Fin 2000) (l : Fin 128), y = ix2 r l := ⟨y 0, y 1, by
    funext a
    match a with
    | ⟨0, _⟩ => rfl
    | ⟨1, _⟩ => rfl⟩
  rw [h r l (by omega), hd.1, hd.2 _ _ (show _ < 100000 by show 2000 * (t.val - 25) + r.val < 100000; omega)]
  rfl

theorem PhiS_zero (c : Dev nD) : PhiS m c 0 = Pipeline.ΦA spec0 c := if_pos rfl
theorem PhiS_pos (c : Dev nD) (n : ℕ) (hn : n ≠ 0) :
    PhiS m c n = iprop((∃ d0, ∃ d1, ⌜Done m c (rowsDone n) d0 d1⌝ ∗ owns (c : Thread nD τ) sumMem fullShare d0 ∗ owns (c : Thread nD τ) expMem fullShare d1) ∗ (∃ r, prngReg c r)) := if_neg hn

set_option maxHeartbeats 1600000 in
/-- The body at any point. -/
theorem sound_body (c : Dev nD) (t : Fin cfg0.N) :
    bodyPre m c t ⊢ wp frame (wpE (defs₀ (F := 𝕀)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [Phi_eq, Phi_eq, Fin.val_succ, Fin.val_castSucc, PhiS_pos m c (t.val + 1) (Nat.succ_ne_zero _), leaves0]
  have hN : t.val < 75 := Nat.lt_of_lt_of_eq t.isLt N_0
  by_cases h25 : t.val < 25
  · rw [Dat.leavesExact_idle (dats m 0 c) 1 t (idle1 t h25) (kept1 t h25)]
    by_cases hz : t.val = 0
    · rw [show PhiS m c t.val = Pipeline.ΦA spec0 c by rw [hz, PhiS_zero], scratch_eq]
      iintro ⟨⟨⟨HS0, ⟨%xs1, HS1⟩⟩, Hg⟩, Ho, ⟨%d0, H0⟩, H1⟩
      iapply ((runFirst c (grid0.coords t) (inMem t) (inMem_whole t) (outMem t) (outMem_whole t) sumMem (Memref.isWhole_whole _) expMem (Memref.isWhole_whole _) ((atStart_iff t).mpr hz) ((filling_iff t).mpr h25) (fun h => absurd ((scaling_iff t).mp h) (by omega)) (iblk m c 0 t) xs1).2 Set.univ _)
      isplitl [H0]; · iexact H0
      isplitl [HS0]; · iexact HS0
      isplitl [HS1]; · iexact HS1
      iintro ⟨H0, ⟨%es0, HS0⟩, HS1⟩
      isplitl [HS0 HS1 Hg]
      · isplitl [HS0 HS1]
        · iexists _
          iexists _
          isplitr
          swap
          · isplitl [HS0]
            · unfold owns; iexists _; isplitr
              swap; · iexact HS0
              ipureintro; rfl
            unfold owns; iexists _; isplitr
            swap; · iexact HS1
            ipureintro; rfl
          ipureintro
          exact done_first m c t hz _ xs1 _
            (fun l => first_sums_at c _ _ _ _ _ _ _ _ _ _ _ _ _ _ (logits m c) (block_at m c t h25) _ l)
            (fun n l => first_table_at c _ _ _ _ _ _ _ _ _ _ _ _ _ _ (logits m c) (block_at m c t h25) n l)
        iexact Hg
      isplitl [Ho]; · iexact Ho
      isplitl [H0]; · iexact H0
      iexact H1
    · rw [PhiS_pos m c t.val hz]
      iintro ⟨⟨⟨%xs0, %xs1, %hd, HS0, HS1⟩, Hg⟩, Ho, ⟨%d0, H0⟩, H1⟩
      iapply ((runFill c (grid0.coords t) (inMem t) (inMem_whole t) (outMem t) (outMem_whole t) sumMem (Memref.isWhole_whole _) expMem (Memref.isWhole_whole _) (fun h => hz ((atStart_iff t).mp h)) ((filling_iff t).mpr h25) (fun h => absurd ((scaling_iff t).mp h) (by omega)) (iblk m c 0 t) xs0 xs1).2 Set.univ _)
      isplitl [H0]; · iexact H0
      isplitl [HS0]; · iexact HS0
      isplitl [HS1]; · iexact HS1
      iintro ⟨H0, ⟨%es0, HS0⟩, HS1⟩
      isplitl [HS0 HS1 Hg]
      · isplitl [HS0 HS1]
        · iexists _
          iexists _
          isplitr
          swap
          · isplitl [HS0]
            · unfold owns; iexists _; isplitr
              swap; · iexact HS0
              ipureintro; rfl
            unfold owns; iexists _; isplitr
            swap; · iexact HS1
            ipureintro; rfl
          ipureintro
          exact done_fill m c t h25 xs0 _ xs1 _ hd
            (fun l => fill_sums_at c _ _ _ _ _ _ _ _ _ _ _ _ _ _ _ (logits m c) (block_at m c t h25) _ l)
            (fun n l => fill_table_at c _ _ _ _ _ _ _ _ _ _ _ _ _ _ _ (logits m c) (block_at m c t h25) n l)
        iexact Hg
      isplitl [Ho]; · iexact Ho
      isplitl [H0]; · iexact H0
      iexact H1
  · have ht : 25 ≤ t.val := by omega
    have hz : t.val ≠ 0 := by omega
    rw [leaves1 m c t ht, PhiS_pos m c t.val hz, show rowsDone (t.val + 1) = rowsDone t.val by unfold rowsDone; omega]
    iintro ⟨⟨⟨%xs0, %xs1, %hd, HS0, HS1⟩, Hg⟩, Ho, ⟨%d0, H0⟩, ⟨%d1, H1⟩⟩
    iapply ((runScale c (grid0.coords t) (inMem t) (inMem_whole t) (outMem t) (outMem_whole t) sumMem (Memref.isWhole_whole _) expMem (Memref.isWhole_whole _) (fun h => hz ((atStart_iff t).mp h)) (fun h => h25 ((filling_iff t).mp h)) ((scaling_iff t).mpr ht) (iblk m c 0 t) xs0 xs1).2 Set.univ _)
    isplitl [H0]; · iexact H0
    isplitl [H1]; · iexists _; iexact H1
    isplitl [HS0]; · iexact HS0
    isplitl [HS1]; · iexact HS1
    iintro ⟨H0, ⟨%e1, H1⟩, HS0, HS1⟩
    isplitl [HS0 HS1 Hg]
    · isplitl [HS0 HS1]
      · iexists xs0
        iexists xs1
        isplitr
        swap
        · isplitl [HS0]
          · iexact HS0
          iexact HS1
        ipureintro
        exact hd
      iexact Hg
    isplitl [Ho]; · iexact Ho
    isplitl [H0]; · iexact H0
    unfold owns; iexists _; isplitr
    swap; · iexact H1
    ipureintro
    exact block_done m c t ht xs0 xs1 hd _
      (fun r l hr => scale_at c _ _ _ _ _ _ _ _ _ _ _ _ _ xs0 xs1 _ (off4_at t ht) _ r l hr)

theorem defs₀_row (t : Fin cfg0.N) :
    defs₀ (F := 𝕀) .tc cfg0.body (cfg0.bodyArgs t (cfg0.slots t)) = bodyAt0 t := by
  unfold defs₀; rw [Defs.onTc_tc]

theorem body_obligation (c : Dev nD) : BodyObligation (dats m 0 c) (defs₀ (F := 𝕀)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq, show ((0 : Fin (cfg0.N + 1)).val) = 0 from rfl, PhiS_zero]
  try exact Idealize.SL.BI.Entails.refl _

theorem hout (c : Dev nD) : (dats m 0 c).Φ (Fin.last cfg0.N) ⊢ Pipeline.ΦA spec0 c := by
  have hN : cfg0.N = 75 := N_0
  rw [Phi_eq, Fin.val_last, PhiS_pos m c cfg0.N (by omega), scratch_eq]
  iintro ⟨⟨%d0, %d1, %hd, HS0, HS1⟩, Hg⟩
  isplitl [HS0 HS1]
  · isplitl [HS0]
    · iexists _; iexact HS0
    iexists _; iexact HS1
  iexact Hg

/-! ## The launch -/

set_option backward.isDefEq.respectTransparency.types false in
set_option maxHeartbeats 800000 in
/-- The program runs to an end, its arrays and the lines after the region as the proof data say, every counter at zero. -/
theorem run_main : θ_run defs (onTc (τ := τ) (main (F := 𝕀))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The result -/

/-- The output array after the run: each weight times the inverse of its column's sum. -/
def scaled (c : Dev nD) : FVec 𝕀 S100000x128 .f32 := fun y =>
  weight (logits m c) (y 0).val (y 1) * Ideal.div 1 (∑ n ∈ Finset.range 100000, weight (logits m c) n (y 1))

theorem index1 : ∀ t : Fin cfg0.N, 25 ≤ t.val → win0_1.index t = ![t.val - 25, 0] :=
  (by decide +kernel : ∀ t : Fin grid0.N, 25 ≤ t.val → win0_1.index t = ![t.val - 25, 0])

/-- The blocks written back tile the output array. -/
theorem arr_out (c : Dev nD) : (dats m 0 c).arrAt 1 (cfgs 0).N = scaled m c := by
  refine (dats m 0 c).arrAt_eq_of_covers 1 _ (by decide +kernel) fun t hf y => ?_
  have ht : 25 ≤ t.val := by
    by_contra h
    rw [kept1 t (by omega)] at hf
    exact absurd hf (by decide)
  blk_simp
  rw [after0_1]
  unfold outBlock scaled
  have e0 : (((win0_1.blk t).view.emb y 0 : Fin _) : ℕ) = 2000 * (t.val - 25) + (y 0).val := by blk_simp [index1 t ht]; omega
  have e1 : (win0_1.blk t).view.emb y 1 = y 1 := by apply Fin.ext; blk_simp [index1 t ht]
  rw [e0, e1]

theorem out_eq (c : Dev nD) : Pipeline.afterTail₀ cfgs (dats m) 0 (V0 m) [hostOps1] c main_v2 = fun y : S128x100000.Idx => scaled m c (ix2 (y 1) (y 0)) := by
  have e := Pipeline.withArrays_arr spec0 launch0.win.arr_inj c (V0 m c) (fun w => (dats m 0 c).arrAt w (cfgs 0).N) 1
  unfold Pipeline.afterTail₀
  simp only [hostOps1, List.flatten_cons, List.flatten_nil, List.append_nil]
  after_results_simp
  rw [show (Pipeline.withArrays (cfgs 0).spec c (V0 m c) (fun w => (dats m 0 c).arrAt w (cfgs 0).N) (Proc.tc.devRef main_v1)) = scaled m c from e.trans (arr_out m c)]
  generalize scaled m c = g
  funext y
  obtain ⟨l, n, rfl⟩ : ∃ (l : Fin 128) (n : Fin 100000), y = ix2 l n := ⟨y 0, y 1, by
    funext a
    match a with
    | ⟨0, _⟩ => rfl
    | ⟨1, _⟩ => rfl⟩
  pointwise

theorem logits_eq (c : Dev nD) (n : Fin 100000) (l : Fin 128) :
    logits m c n.val l = m ((c : Thread nD τ).loc main_arg0) (ix2 l n) := by
  unfold logits
  rw [dif_pos n.isLt]
  unfold V V0
  simp only [hostOps0, List.flatten_cons, List.flatten_nil, List.append_nil]
  after_results_simp
  pointwise

/-- The logits `x` by vocabulary position and batch row. -/
def table (x : FVec 𝕀 S128x100000 .f32) (n : ℕ) (l : Fin 128) : EReal :=
  if h : n < 100000 then x (ix2 l ⟨n, h⟩) else 0

/-- The kernel's result of the logits `x`: each weight times the inverse of its row's sum of weights. -/
def kernOut (x : FVec 𝕀 S128x100000 .f32) : FVec 𝕀 S128x100000 .f32 := fun y =>
  weight (table x) (y 1).val (y 0) * Ideal.div 1 (∑ n ∈ Finset.range 100000, weight (table x) n (y 0))

theorem logits_fn (c : Dev nD) : logits m c = table (m ((c : Thread nD τ).loc main_arg0)) := by
  funext n l
  by_cases h : n < 100000
  · rw [show table (m ((c : Thread nD τ).loc main_arg0)) n l = _ from dif_pos h]
    exact logits_eq m c ⟨n, h⟩ l
  · rw [show table (m ((c : Thread nD τ).loc main_arg0)) n l = _ from dif_neg h]
    unfold logits
    rw [dif_neg h]

/-- The run with its result at that function of the logits as launched, the logits kept and every counter at zero. -/
theorem run_value : θ_run defs (onTc (τ := τ) (main (F := 𝕀))) ⟨m, fun _ => 0, ρ⟩
    (fun r => (∀ c : Dev nD, r.2.mem ((c : Thread nD τ).loc main_v2) = kernOut (m ((c : Thread nD τ).loc main_arg0))
      ∧ r.2.mem ((c : Thread nD τ).loc main_arg0) = m ((c : Thread nD τ).loc main_arg0)) ∧ r.2.sem = fun _ => 0) :=
  (θ_run defs _ _).mono (fun r h => ⟨fun c =>
    ⟨((h.1 c).2 main_v2 (Pipeline.mem_restRefs_of main_v2 (by decide) (by decide))).trans ((out_eq m c).trans (by
        unfold scaled kernOut; rw [logits_fn]; rfl)),
      ((h.1 c).2 main_arg0 (Pipeline.mem_restRefs_of main_arg0 (by decide) (by decide))).trans (W_main_arg0 m (dats m) c)⟩, h.2⟩) (run_main m ρ)

end Cert.KernelIdeal.Gen

end
-- ==== Proof.Equal.lean ====
module

public import proofs.«01_k».proof.Proof.Math
public import proofs.«01_k».proof.Proof.KernRun

@[expose] public section

set_option maxRecDepth 16384

noncomputable section

namespace Cert.Soft

open Idealize.ShloMosaic
open Cert.KernelIdeal.Gen (kernOut table weight)
open Cert.ReferenceIdeal.Gen (noisy top refOut refOut_at lowest)
open Cert.ReferenceIdeal (S128x100000)

/-! ## The two results are one -/

variable (x : FVec Ideal S128x100000 .f32)

/-- The random word of a place. -/
def wordAt (l : Fin 128) (n : ℕ) : BitVec 32 := word (BitVec.ofNat 32 (100000 * l.val + n) + 42)

theorem noisy_eq (l : Fin 128) (n : Fin 100000) : noisy x l n = (x (ix2 l n) : EReal) + (gum (wordAt l n.val) : EReal) := by
  unfold noisy
  rw [noise_eq, ← EReal.coe_one, Ideal.div_coe one_ne_zero, one_div, inv_one, EReal.coe_one, mul_one]
  rfl

/-- The largest noisy logit of a row is a real number. -/
theorem top_eq (l : Fin 128) (hx : ∀ n, (x (ix2 l n) : EReal) ≠ ⊤) (hb : ∃ n, (x (ix2 l n) : EReal) ≠ ⊥) :
    ∃ t : ℝ, top x l = (t : EReal) := by
  have h1 : top x l ≠ ⊤ := by
    unfold top
    rw [lowest_eq, max_eq_right bot_le]
    refine ((Finset.fold_max_lt _).mpr ⟨bot_lt_top, fun n _ => ?_⟩).ne
    rw [noisy_eq]
    exact EReal.add_lt_top (hx n) (EReal.coe_ne_top _)
  have h2 : top x l ≠ ⊥ := by
    obtain ⟨n, hn⟩ := hb
    unfold top
    rw [lowest_eq, max_eq_right bot_le]
    refine ((Finset.lt_fold_max _).mpr (Or.inr ⟨n, Finset.mem_univ n, ?_⟩)).ne'
    rw [noisy_eq]
    exact EReal.bot_lt_add_iff.mpr ⟨bot_lt_iff_ne_bot.mpr hn, EReal.bot_lt_coe _⟩
  exact ⟨(top x l).toReal, (EReal.coe_toReal h1 h2).symm⟩

/-- The real weight of a place. -/
def realAt (l : Fin 128) (n : Fin 100000) : ℝ := ew (x (ix2 l n)) (gum (wordAt l n.val))

theorem kern_weight (l : Fin 128) (hx : ∀ n, (x (ix2 l n) : EReal) ≠ ⊤) (n : Fin 100000) :
    weight (table x) n.val l = ((factor * realAt x l n : ℝ) : EReal) := by
  unfold weight realAt
  rw [show table x n.val l = x (ix2 l n) from dif_pos n.isLt]
  exact weight_eq _ _ (hx n)

theorem sum_pos (l : Fin 128) (hb : ∃ n, (x (ix2 l n) : EReal) ≠ ⊥) : 0 < ∑ n : Fin 100000, realAt x l n := by
  obtain ⟨n, hn⟩ := hb
  refine Finset.sum_pos' (fun k _ => ew_nonneg _ _) ⟨n, Finset.mem_univ n, ?_⟩
  unfold realAt ew
  rw [if_neg hn]
  exact Real.exp_pos _

/-- Where no logit of a row is plus infinity and one is above minus infinity, the kernel's quotient is the reference's. -/
theorem equal_at (l : Fin 128) (n : Fin 100000) (hx : ∀ n, (x (ix2 l n) : EReal) ≠ ⊤) (hb : ∃ n, (x (ix2 l n) : EReal) ≠ ⊥) :
    kernOut x (ix2 l n) = refOut (F := Ideal) x (ix2 l n) := by
  obtain ⟨t, ht⟩ := top_eq x l hx hb
  have he : ∀ k, Ideal.exp (noisy x l k - top x l) = ((realAt x l k * Real.exp (-t) : ℝ) : EReal) := fun k => by
    rw [ht, noisy_eq]
    exact exp_eq _ (hx k) _ t
  rw [refOut_at, he, Finset.sum_congr rfl (fun k _ => he k), ← coe_sum, ← Finset.sum_mul]
  show weight (table x) n.val l * Ideal.div 1 (∑ k ∈ Finset.range 100000, weight (table x) k l) = _
  rw [Finset.sum_range, Finset.sum_congr rfl (fun k _ => kern_weight x l hx k), kern_weight x l hx n, ← coe_sum, ← Finset.mul_sum]
  exact quotient _ _ _ _ (sum_pos x l hb) factor_pos (Real.exp_pos _)

theorem equal (hx : ∀ l n, (x (ix2 l n) : EReal) ≠ ⊤) (hb : ∀ l, ∃ n, (x (ix2 l n) : EReal) ≠ ⊥) : kernOut x = refOut (F := Ideal) x := by
  funext y
  obtain ⟨l, n, rfl⟩ : ∃ (l : Fin 128) (n : Fin 100000), y = ix2 l n := ⟨y 0, y 1, by
    funext a
    match a with
    | ⟨0, _⟩ => rfl
    | ⟨1, _⟩ => rfl⟩
  exact equal_at x l n (hx l) (hb l)

end Cert.Soft

end
-- ==== Proof.RefPost.lean ====
module

public import proofs.«01_k».proof.Proof.RefVal
public import proofs.«01_k».proof.Defs
public import Idealize.ShloMosaic.Lib.Quiescent

@[expose] public section

set_option maxRecDepth 16384

noncomputable section

namespace Cert.ReferenceIdeal.Gen

open Idealize.ShloMosaic Idealize.ShloMosaic.TcCoe Idealize.ShloMosaic.StableHlo Idealize.ShloMosaic.ValueIdx
open Idealize.SL.Sem
open Cert.Soft

section Run
variable {F : FTy → Type} [FloatOps F]

/-- The straight line, none of whose operations leaves a buffer undetermined. -/
theorem ops_fresh : ∀ op ∈ (allOps : Ops F), op.fresh = ∅ := by
  have h0 : ∀ op ∈ (around.1.1 : Ops F), op.fresh = ∅ := by
    delta around; intro _ h; (repeat (cases h with | head => rfl | tail _ h => ?_)); exact nomatch h
  have h1 : ∀ op ∈ (hash0.1 : Ops F), op.fresh = ∅ := by
    delta hash0; intro _ h; (repeat (cases h with | head => rfl | tail _ h => ?_)); exact nomatch h
  have h2 : ∀ op ∈ (hash1.1 : Ops F), op.fresh = ∅ := by
    delta hash1; intro _ h; (repeat (cases h with | head => rfl | tail _ h => ?_)); exact nomatch h
  have h3 : ∀ op ∈ (hash2.1 : Ops F), op.fresh = ∅ := by
    delta hash2; intro _ h; (repeat (cases h with | head => rfl | tail _ h => ?_)); exact nomatch h
  have h4 : ∀ op ∈ (hash3.1 : Ops F), op.fresh = ∅ := by
    delta hash3; intro _ h; (repeat (cases h with | head => rfl | tail _ h => ?_)); exact nomatch h
  have h5 : ∀ op ∈ (around.1.2 : Ops F), op.fresh = ∅ := by
    delta around; intro _ h; (repeat (cases h with | head => rfl | tail _ h => ?_)); exact nomatch h
  have h6 : ∀ op ∈ (close.1 : Ops F), op.fresh = ∅ := by
    delta close; intro _ h; (repeat (cases h with | head => rfl | tail _ h => ?_)); exact nomatch h
  intro op h
  unfold allOps hashOps at h
  simp only [List.mem_append] at h
  rcases h with ((h | ((h | h | h | h) | h)) | h)
  exacts [h0 op h, h1 op h, h2 op h, h3 op h, h4 op h, h5 op h, h6 op h]

/-- Every operation works on the core's own buffers. -/
theorem ops_bufs : (allOps : Ops F).Forall fun op => op.bufs ⊆ tcRefs τ sig := by
  unfold allOps hashOps
  simp only [List.forall_append]
  refine ⟨⟨?_, ⟨?_, ?_, ?_, ?_⟩, ?_⟩, ?_⟩
  · delta around splitOff; dsimp only; simp
  · delta hash0 readOff; dsimp only; simp
  · delta hash1 readOff; dsimp only; simp
  · delta hash2 readOff; dsimp only; simp
  · delta hash3 readOff; dsimp only; simp
  · delta around splitOff; dsimp only; simp
  · delta close readOffAll; dsimp only; simp

/-- The reference runs; it ends with `refOut` of its argument in the result buffer, the argument as it was and no
    semaphore counter off zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v54) = refOut (m ((c.tc : Thread nD τ).loc main_arg0))
      ∧ r.2.mem ((c.tc : Thread nD τ).loc main_arg0) = m ((c.tc : Thread nD τ).loc main_arg0)) ∧ r.2.sem = fun _ => 0) := by
  refine θ_run_mono (run_hlo (defs (F := F)) (main (F := F)) main_isSeq (by decide) (by decide) ops_bufs ops_fresh m g) ?_
  intro r h
  refine ⟨fun c => ⟨?_, ?_⟩, sem_eq_zero_of_no_sems (by decide) _⟩
  · rw [h c main_v54]; exact all_v54 _
  · rw [h c main_arg0]; exact all_arg0 _

end Run

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Pre
public import proofs.«01_k».proof.Proof.Equal
public import proofs.«01_k».proof.Proof.RefPost
public import Idealize.ShloMosaic.Adequacy
public import Idealize.ShloMosaic.Init

@[expose] public section

noncomputable section

namespace Cert.Proof

open Idealize.ShloMosaic Idealize.SL.Sem Cert.Kernel

/-- The real kernel runs to an end, keeps its argument and leaves every counter at zero. -/
theorem frame_p : Cert.quiescent_Kernel (hKernel := Cert.Kernel.Gen.facts) := fun m g _ => Cert.Kernel.Gen.ends_kept m g

/-- So does the idealized kernel, -/
theorem frame_pi : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Gen.run_value m g)

/-- and the idealized reference. -/
theorem frame_ri : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Gen.run m g)

/-- The one named constant of the kernel stands for the inverse of the logarithm of two. -/
theorem preserves : Cert.preserves_Kernel_KernelIdeal :=
  IdealRules.named_const.statement Cert.KernelIdeal.κ "log2e" .f32 0x3FB8AA3B#32 (((Real.log 2)⁻¹ : ℝ) : EReal) rfl

/-- Over the extended reals the kernel and the reference compute the same result of the same logits. -/
theorem algebraic : Cert.algebraic_KernelIdeal_ReferenceIdeal_pre_rows_have_a_maximum (hKernelIdeal := Cert.KernelIdeal.Gen.facts)
    (hReferenceIdeal := Cert.ReferenceIdeal.Gen.facts) (hPre_rows_have_a_maximum := Cert.Pre_rows_have_a_maximum.facts) := by
  intro m g m' g' hpre hagree
  refine ⟨fun c => Cert.KernelIdeal.Gen.kernOut (m ((c.tc : Thread Cert.KernelIdeal.nD Cert.KernelIdeal.τ).loc Cert.KernelIdeal.main_arg0)), ?_, ?_⟩
  · exact (θ_run Cert.KernelIdeal.defs _ _).mono (fun _ h => h.1) (Cert.KernelIdeal.Gen.run_value m g)
  · refine (θ_run Cert.ReferenceIdeal.defs _ _).mono (fun _ h c => ⟨(h.1 c).1.trans ?_, (h.1 c).2⟩) (Cert.ReferenceIdeal.Gen.run m' g')
    rw [hagree c]
    exact (Cert.Soft.equal _ (fun l n => @Cert.Pre_rows_have_a_maximum.no_top Cert.Pre_rows_have_a_maximum.facts _ (hpre c) l n)
      (fun l => @Cert.Pre_rows_have_a_maximum.some_real Cert.Pre_rows_have_a_maximum.facts _ (hpre c) l)).symm

theorem claim : Cert.Claim :=
  ⟨Cert.Kernel.Gen.facts, Cert.KernelIdeal.Gen.facts, Cert.ReferenceIdeal.Gen.facts, Cert.Pre_rows_have_a_maximum.facts,
    frame_p, frame_pi, fun m g _ => frame_pi m g trivial, frame_ri, fun m g _ => frame_ri m g trivial, preserves, algebraic⟩

end Cert.Proof

end
